-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S1024x2048 : Shape := ⟨2, ![1024, 2048]⟩
abbrev S2048x2048 : Shape := ⟨2, ![2048, 2048]⟩
abbrev S2x3x256x1024 : Shape := ⟨4, ![2, 3, 256, 1024]⟩
abbrev S12 : Shape := ⟨1, ![12]⟩
abbrev S_ : Shape := ⟨0, ![]⟩
abbrev S512x1024 : Shape := ⟨2, ![512, 1024]⟩
abbrev S512x2048 : Shape := ⟨2, ![512, 2048]⟩
abbrev S1 : Shape := ⟨1, ![1]⟩
abbrev S1x1x256x1024 : Shape := ⟨4, ![1, 1, 256, 1024]⟩
abbrev S256x1024 : Shape := ⟨2, ![256, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S2x3x256x1024, .bf16⟩
  | .local _ .vmem, ⟨6, _⟩ => ⟨S2x3x256x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_18 : BitVec 32 := 1#32
  let v32 : BitVec 32 := Scalar.muli v14 c1_i32_18
  let v33 : BitVec 32 := Scalar.addi c0_i32_19 v32
  v33.toNat
def k0_dev2 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_21 : BitVec 32 := 1#32
  let v34 : BitVec 32 := Scalar.muli v25 c1_i32_21
  let v35 : BitVec 32 := Scalar.addi c0_i32_22 v34
  v35.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v36 : BitVec 32 := Scalar.muli v2 c512_i32
  let v37 : Index := Scalar.indexCast v36
  let c0_23 : Index := 0#32
  ![v37.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v36 : BitVec 32 := Scalar.muli v2 c512_i32
  let v43 : Index := Scalar.indexCast v36
  let c0_26 : Index := 0#32
  ![v43.toNat, 0]
def k0_off3 (d0 : Dev nD) (c0_i32_27 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v47 : BitVec 32 := Scalar.subi v2 c0_i32_27
  let c4_i32_28 : BitVec 32 := 4#32
  let v48 : BitVec 32 := Scalar.addi v47 c4_i32_28
  let c4_i32_29 : BitVec 32 := 4#32
  let c0_i32_30 : BitVec 32 := 0#32
  let v49 : BitVec 1 := Scalar.cmpi .eq c4_i32_29 c0_i32_30
  let c1_i32_31 : BitVec 32 := 1#32
  let v50 : BitVec 32 := Scalar.select v49 c1_i32_31 c4_i32_29
  let v51 : BitVec 32 := Scalar.remsi v48 v50
  let c0_i32_33 : BitVec 32 := 0#32
  let v53 : BitVec 1 := Scalar.cmpi .slt v51 c0_i32_33
  let c0_i32_34 : BitVec 32 := 0#32
  let v54 : BitVec 1 := Scalar.cmpi .slt v50 c0_i32_34
  let v55 : BitVec 1 := Scalar.xori v53 v54
  let c0_i32_32 : BitVec 32 := 0#32
  let v52 : BitVec 1 := Scalar.cmpi .ne v51 c0_i32_32
  let v56 : BitVec 1 := Scalar.andi v55 v52
  let v57 : BitVec 32 := Scalar.addi v51 v50
  let v58 : BitVec 32 := Scalar.select v56 v57 v51
  let c512_i32_35 : BitVec 32 := 512#32
  let v59 : BitVec 32 := Scalar.muli v58 c512_i32_35
  let c0_i32_44 : BitVec 32 := 0#32
  ![v59.toNat, 0]
def k0_dev3 (d0 : Dev nD) : Nat :=
  let c0_i32_41 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_40 : BitVec 32 := 1#32
  let v60 : BitVec 32 := Scalar.muli v25 c1_i32_40
  let v61 : BitVec 32 := Scalar.addi c0_i32_41 v60
  v61.toNat
def k0_off4 (d0 : Dev nD) (c0_i32_45 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v69 : BitVec 32 := Scalar.addi v2 c0_i32_45
  let c4_i32_46 : BitVec 32 := 4#32
  let c0_i32_47 : BitVec 32 := 0#32
  let v70 : BitVec 1 := Scalar.cmpi .eq c4_i32_46 c0_i32_47
  let c1_i32_48 : BitVec 32 := 1#32
  let v71 : BitVec 32 := Scalar.select v70 c1_i32_48 c4_i32_46
  let v72 : BitVec 32 := Scalar.remsi v69 v71
  let c0_i32_50 : BitVec 32 := 0#32
  let v74 : BitVec 1 := Scalar.cmpi .slt v72 c0_i32_50
  let c0_i32_51 : BitVec 32 := 0#32
  let v75 : BitVec 1 := Scalar.cmpi .slt v71 c0_i32_51
  let v76 : BitVec 1 := Scalar.xori v74 v75
  let c0_i32_49 : BitVec 32 := 0#32
  let v73 : BitVec 1 := Scalar.cmpi .ne v72 c0_i32_49
  let v77 : BitVec 1 := Scalar.andi v76 v73
  let v78 : BitVec 32 := Scalar.addi v72 v71
  let v79 : BitVec 32 := Scalar.select v77 v78 v72
  let c512_i32_52 : BitVec 32 := 512#32
  let v80 : BitVec 32 := Scalar.muli v79 c512_i32_52
  let c256_i32 : BitVec 32 := 256#32
  let v81 : BitVec 32 := Scalar.addi v80 c256_i32
  let c0_i32_61 : BitVec 32 := 0#32
  ![v81.toNat, 0]
def k0_dev4 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_57 : BitVec 32 := 1#32
  let v82 : BitVec 32 := Scalar.muli v14 c1_i32_57
  let v83 : BitVec 32 := Scalar.addi c0_i32_58 v82
  v83.toNat
def k0_off5 (d0 : Dev nD) (c0_i32_62 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.subi v2 c0_i32_62
  let c4_i32_63 : BitVec 32 := 4#32
  let v92 : BitVec 32 := Scalar.addi v91 c4_i32_63
  let c4_i32_64 : BitVec 32 := 4#32
  let c0_i32_65 : BitVec 32 := 0#32
  let v93 : BitVec 1 := Scalar.cmpi .eq c4_i32_64 c0_i32_65
  let c1_i32_66 : BitVec 32 := 1#32
  let v94 : BitVec 32 := Scalar.select v93 c1_i32_66 c4_i32_64
  let v95 : BitVec 32 := Scalar.remsi v92 v94
  let c0_i32_68 : BitVec 32 := 0#32
  let v97 : BitVec 1 := Scalar.cmpi .slt v95 c0_i32_68
  let c0_i32_69 : BitVec 32 := 0#32
  let v98 : BitVec 1 := Scalar.cmpi .slt v94 c0_i32_69
  let v99 : BitVec 1 := Scalar.xori v97 v98
  let c0_i32_67 : BitVec 32 := 0#32
  let v96 : BitVec 1 := Scalar.cmpi .ne v95 c0_i32_67
  let v100 : BitVec 1 := Scalar.andi v99 v96
  let v101 : BitVec 32 := Scalar.addi v95 v94
  let v102 : BitVec 32 := Scalar.select v100 v101 v95
  let c512_i32_70 : BitVec 32 := 512#32
  let v103 : BitVec 32 := Scalar.muli v102 c512_i32_70
  let c1024_i32 : BitVec 32 := 1024#32
  ![v103.toNat, 1024]
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_74 : BitVec 32 := 1#32
  let v104 : BitVec 32 := Scalar.muli v25 c1_i32_74
  let v105 : BitVec 32 := Scalar.addi c0_i32_75 v104
  v105.toNat
def k0_off6 (d0 : Dev nD) (c0_i32_78 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v113 : BitVec 32 := Scalar.addi v2 c0_i32_78
  let c4_i32_79 : BitVec 32 := 4#32
  let c0_i32_80 : BitVec 32 := 0#32
  let v114 : BitVec 1 := Scalar.cmpi .eq c4_i32_79 c0_i32_80
  let c1_i32_81 : BitVec 32 := 1#32
  let v115 : BitVec 32 := Scalar.select v114 c1_i32_81 c4_i32_79
  let v116 : BitVec 32 := Scalar.remsi v113 v115
  let c0_i32_83 : BitVec 32 := 0#32
  let v118 : BitVec 1 := Scalar.cmpi .slt v116 c0_i32_83
  let c0_i32_84 : BitVec 32 := 0#32
  let v119 : BitVec 1 := Scalar.cmpi .slt v115 c0_i32_84
  let v120 : BitVec 1 := Scalar.xori v118 v119
  let c0_i32_82 : BitVec 32 := 0#32
  let v117 : BitVec 1 := Scalar.cmpi .ne v116 c0_i32_82
  let v121 : BitVec 1 := Scalar.andi v120 v117
  let v122 : BitVec 32 := Scalar.addi v116 v115
  let v123 : BitVec 32 := Scalar.select v121 v122 v116
  let c512_i32_85 : BitVec 32 := 512#32
  let v124 : BitVec 32 := Scalar.muli v123 c512_i32_85
  let c256_i32_86 : BitVec 32 := 256#32
  let v125 : BitVec 32 := Scalar.addi v124 c256_i32_86
  let c1024_i32_95 : BitVec 32 := 1024#32
  ![v125.toNat, 1024]
def k0_dev6 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_91 : BitVec 32 := 1#32
  let v126 : BitVec 32 := Scalar.muli v14 c1_i32_91
  let v127 : BitVec 32 := Scalar.addi c0_i32_92 v126
  v127.toNat
def k0_off7 (d0 : Dev nD) (c1_i32_96 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v135 : BitVec 32 := Scalar.addi v2 c1_i32_96
  let c4_i32_97 : BitVec 32 := 4#32
  let c0_i32_98 : BitVec 32 := 0#32
  let v136 : BitVec 1 := Scalar.cmpi .eq c4_i32_97 c0_i32_98
  let c1_i32_99 : BitVec 32 := 1#32
  let v137 : BitVec 32 := Scalar.select v136 c1_i32_99 c4_i32_97
  let v138 : BitVec 32 := Scalar.remsi v135 v137
  let c0_i32_101 : BitVec 32 := 0#32
  let v140 : BitVec 1 := Scalar.cmpi .slt v138 c0_i32_101
  let c0_i32_102 : BitVec 32 := 0#32
  let v141 : BitVec 1 := Scalar.cmpi .slt v137 c0_i32_102
  let v142 : BitVec 1 := Scalar.xori v140 v141
  let c0_i32_100 : BitVec 32 := 0#32
  let v139 : BitVec 1 := Scalar.cmpi .ne v138 c0_i32_100
  let v143 : BitVec 1 := Scalar.andi v142 v139
  let v144 : BitVec 32 := Scalar.addi v138 v137
  let v145 : BitVec 32 := Scalar.select v143 v144 v138
  let c512_i32_103 : BitVec 32 := 512#32
  let v146 : BitVec 32 := Scalar.muli v145 c512_i32_103
  let v147 : Index := Scalar.indexCast v146
  let c0_104 : Index := 0#32
  ![v147.toNat, 0]
def k0_off8 (d0 : Dev nD) (c1_i32_96 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v135 : BitVec 32 := Scalar.addi v2 c1_i32_96
  let c4_i32_97 : BitVec 32 := 4#32
  let c0_i32_98 : BitVec 32 := 0#32
  let v136 : BitVec 1 := Scalar.cmpi .eq c4_i32_97 c0_i32_98
  let c1_i32_99 : BitVec 32 := 1#32
  let v137 : BitVec 32 := Scalar.select v136 c1_i32_99 c4_i32_97
  let v138 : BitVec 32 := Scalar.remsi v135 v137
  let c0_i32_101 : BitVec 32 := 0#32
  let v140 : BitVec 1 := Scalar.cmpi .slt v138 c0_i32_101
  let c0_i32_102 : BitVec 32 := 0#32
  let v141 : BitVec 1 := Scalar.cmpi .slt v137 c0_i32_102
  let v142 : BitVec 1 := Scalar.xori v140 v141
  let c0_i32_100 : BitVec 32 := 0#32
  let v139 : BitVec 1 := Scalar.cmpi .ne v138 c0_i32_100
  let v143 : BitVec 1 := Scalar.andi v142 v139
  let v144 : BitVec 32 := Scalar.addi v138 v137
  let v145 : BitVec 32 := Scalar.select v143 v144 v138
  let c512_i32_103 : BitVec 32 := 512#32
  let v146 : BitVec 32 := Scalar.muli v145 c512_i32_103
  let v153 : Index := Scalar.indexCast v146
  let c0_108 : Index := 0#32
  ![v153.toNat, 0]
def k0_off9 (d0 : Dev nD) (c0_i32_151 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v213 : BitVec 32 := Scalar.subi v2 c0_i32_151
  let c1_i32_152 : BitVec 32 := 1#32
  let v214 : BitVec 32 := Scalar.subi v213 c1_i32_152
  let c4_i32_153 : BitVec 32 := 4#32
  let v215 : BitVec 32 := Scalar.addi v214 c4_i32_153
  let c4_i32_154 : BitVec 32 := 4#32
  let c0_i32_155 : BitVec 32 := 0#32
  let v216 : BitVec 1 := Scalar.cmpi .eq c4_i32_154 c0_i32_155
  let c1_i32_156 : BitVec 32 := 1#32
  let v217 : BitVec 32 := Scalar.select v216 c1_i32_156 c4_i32_154
  let v218 : BitVec 32 := Scalar.remsi v215 v217
  let c0_i32_158 : BitVec 32 := 0#32
  let v220 : BitVec 1 := Scalar.cmpi .slt v218 c0_i32_158
  let c0_i32_159 : BitVec 32 := 0#32
  let v221 : BitVec 1 := Scalar.cmpi .slt v217 c0_i32_159
  let v222 : BitVec 1 := Scalar.xori v220 v221
  let c0_i32_157 : BitVec 32 := 0#32
  let v219 : BitVec 1 := Scalar.cmpi .ne v218 c0_i32_157
  let v223 : BitVec 1 := Scalar.andi v222 v219
  let v224 : BitVec 32 := Scalar.addi v218 v217
  let v225 : BitVec 32 := Scalar.select v223 v224 v218
  let c512_i32_160 : BitVec 32 := 512#32
  let v226 : BitVec 32 := Scalar.muli v225 c512_i32_160
  let v227 : Index := Scalar.indexCast v226
  let c0_161 : Index := 0#32
  ![v227.toNat, 0]
def k0_dev7 (d0 : Dev nD) : Nat :=
  let c0_i32_181 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_180 : BitVec 32 := 1#32
  let v249 : BitVec 32 := Scalar.muli v25 c1_i32_180
  let v250 : BitVec 32 := Scalar.addi c0_i32_181 v249
  v250.toNat
def k0_off10 (d0 : Dev nD) (c0_i32_202 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v270 : BitVec 32 := Scalar.addi v2 c0_i32_202
  let c1_i32_203 : BitVec 32 := 1#32
  let v271 : BitVec 32 := Scalar.addi v270 c1_i32_203
  let c4_i32_204 : BitVec 32 := 4#32
  let c0_i32_205 : BitVec 32 := 0#32
  let v272 : BitVec 1 := Scalar.cmpi .eq c4_i32_204 c0_i32_205
  let c1_i32_206 : BitVec 32 := 1#32
  let v273 : BitVec 32 := Scalar.select v272 c1_i32_206 c4_i32_204
  let v274 : BitVec 32 := Scalar.remsi v271 v273
  let c0_i32_208 : BitVec 32 := 0#32
  let v276 : BitVec 1 := Scalar.cmpi .slt v274 c0_i32_208
  let c0_i32_209 : BitVec 32 := 0#32
  let v277 : BitVec 1 := Scalar.cmpi .slt v273 c0_i32_209
  let v278 : BitVec 1 := Scalar.xori v276 v277
  let c0_i32_207 : BitVec 32 := 0#32
  let v275 : BitVec 1 := Scalar.cmpi .ne v274 c0_i32_207
  let v279 : BitVec 1 := Scalar.andi v278 v275
  let v280 : BitVec 32 := Scalar.addi v274 v273
  let v281 : BitVec 32 := Scalar.select v279 v280 v274
  let c512_i32_210 : BitVec 32 := 512#32
  let v282 : BitVec 32 := Scalar.muli v281 c512_i32_210
  let c256_i32_211 : BitVec 32 := 256#32
  let v283 : BitVec 32 := Scalar.addi v282 c256_i32_211
  let v284 : Index := Scalar.indexCast v283
  let c0_212 : Index := 0#32
  ![v284.toNat, 0]
def k0_dev8 (d0 : Dev nD) : Nat :=
  let c0_i32_232 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_231 : BitVec 32 := 1#32
  let v306 : BitVec 32 := Scalar.muli v14 c1_i32_231
  let v307 : BitVec 32 := Scalar.addi c0_i32_232 v306
  v307.toNat
def k0_off11 (d0 : Dev nD) (c0_i32_253 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v327 : BitVec 32 := Scalar.subi v2 c0_i32_253
  let c1_i32_254 : BitVec 32 := 1#32
  let v328 : BitVec 32 := Scalar.subi v327 c1_i32_254
  let c4_i32_255 : BitVec 32 := 4#32
  let v329 : BitVec 32 := Scalar.addi v328 c4_i32_255
  let c4_i32_256 : BitVec 32 := 4#32
  let c0_i32_257 : BitVec 32 := 0#32
  let v330 : BitVec 1 := Scalar.cmpi .eq c4_i32_256 c0_i32_257
  let c1_i32_258 : BitVec 32 := 1#32
  let v331 : BitVec 32 := Scalar.select v330 c1_i32_258 c4_i32_256
  let v332 : BitVec 32 := Scalar.remsi v329 v331
  let c0_i32_260 : BitVec 32 := 0#32
  let v334 : BitVec 1 := Scalar.cmpi .slt v332 c0_i32_260
  let c0_i32_261 : BitVec 32 := 0#32
  let v335 : BitVec 1 := Scalar.cmpi .slt v331 c0_i32_261
  let v336 : BitVec 1 := Scalar.xori v334 v335
  let c0_i32_259 : BitVec 32 := 0#32
  let v333 : BitVec 1 := Scalar.cmpi .ne v332 c0_i32_259
  let v337 : BitVec 1 := Scalar.andi v336 v333
  let v338 : BitVec 32 := Scalar.addi v332 v331
  let v339 : BitVec 32 := Scalar.select v337 v338 v332
  let c512_i32_262 : BitVec 32 := 512#32
  let v340 : BitVec 32 := Scalar.muli v339 c512_i32_262
  let v341 : Index := Scalar.indexCast v340
  let c1024 : Index := 1024#32
  ![v341.toNat, 1024]
def k0_dev9 (d0 : Dev nD) : Nat :=
  let c0_i32_280 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_279 : BitVec 32 := 1#32
  let v363 : BitVec 32 := Scalar.muli v25 c1_i32_279
  let v364 : BitVec 32 := Scalar.addi c0_i32_280 v363
  v364.toNat
def k0_off12 (d0 : Dev nD) (c0_i32_301 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v384 : BitVec 32 := Scalar.addi v2 c0_i32_301
  let c1_i32_302 : BitVec 32 := 1#32
  let v385 : BitVec 32 := Scalar.addi v384 c1_i32_302
  let c4_i32_303 : BitVec 32 := 4#32
  let c0_i32_304 : BitVec 32 := 0#32
  let v386 : BitVec 1 := Scalar.cmpi .eq c4_i32_303 c0_i32_304
  let c1_i32_305 : BitVec 32 := 1#32
  let v387 : BitVec 32 := Scalar.select v386 c1_i32_305 c4_i32_303
  let v388 : BitVec 32 := Scalar.remsi v385 v387
  let c0_i32_307 : BitVec 32 := 0#32
  let v390 : BitVec 1 := Scalar.cmpi .slt v388 c0_i32_307
  let c0_i32_308 : BitVec 32 := 0#32
  let v391 : BitVec 1 := Scalar.cmpi .slt v387 c0_i32_308
  let v392 : BitVec 1 := Scalar.xori v390 v391
  let c0_i32_306 : BitVec 32 := 0#32
  let v389 : BitVec 1 := Scalar.cmpi .ne v388 c0_i32_306
  let v393 : BitVec 1 := Scalar.andi v392 v389
  let v394 : BitVec 32 := Scalar.addi v388 v387
  let v395 : BitVec 32 := Scalar.select v393 v394 v388
  let c512_i32_309 : BitVec 32 := 512#32
  let v396 : BitVec 32 := Scalar.muli v395 c512_i32_309
  let c256_i32_310 : BitVec 32 := 256#32
  let v397 : BitVec 32 := Scalar.addi v396 c256_i32_310
  let v398 : Index := Scalar.indexCast v397
  let c1024_311 : Index := 1024#32
  ![v398.toNat, 1024]
def k0_dev10 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_330 : BitVec 32 := 1#32
  let v420 : BitVec 32 := Scalar.muli v14 c1_i32_330
  let v421 : BitVec 32 := Scalar.addi c0_i32_331 v420
  v421.toNat
def k0_dev11 (d0 : Dev nD) : Nat :=
  let c0_i32_382 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_381 : BitVec 32 := 1#32
  let v477 : BitVec 32 := Scalar.muli v25 c1_i32_381
  let v478 : BitVec 32 := Scalar.addi c0_i32_382 v477
  v478.toNat
def k0_dev12 (d0 : Dev nD) : Nat :=
  let c0_i32_433 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_432 : BitVec 32 := 1#32
  let v534 : BitVec 32 := Scalar.muli v14 c1_i32_432
  let v535 : BitVec 32 := Scalar.addi c0_i32_433 v534
  v535.toNat
def k0_dev13 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_482 : BitVec 32 := 1#32
  let v591 : BitVec 32 := Scalar.muli v25 c1_i32_482
  let v592 : BitVec 32 := Scalar.addi c0_i32_483 v591
  v592.toNat
def k0_dev14 (d0 : Dev nD) : Nat :=
  let c0_i32_534 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_533 : BitVec 32 := 1#32
  let v648 : BitVec 32 := Scalar.muli v14 c1_i32_533
  let v649 : BitVec 32 := Scalar.addi c0_i32_534 v648
  v649.toNat
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v657 : BitVec 32 := Scalar.addi v2 c1_i32_538
  let c4_i32_539 : BitVec 32 := 4#32
  let c0_i32_540 : BitVec 32 := 0#32
  let v658 : BitVec 1 := Scalar.cmpi .eq c4_i32_539 c0_i32_540
  let c1_i32_541 : BitVec 32 := 1#32
  let v659 : BitVec 32 := Scalar.select v658 c1_i32_541 c4_i32_539
  let v660 : BitVec 32 := Scalar.remsi v657 v659
  let c0_i32_543 : BitVec 32 := 0#32
  let v662 : BitVec 1 := Scalar.cmpi .slt v660 c0_i32_543
  let c0_i32_544 : BitVec 32 := 0#32
  let v663 : BitVec 1 := Scalar.cmpi .slt v659 c0_i32_544
  let v664 : BitVec 1 := Scalar.xori v662 v663
  let c0_i32_542 : BitVec 32 := 0#32
  let v661 : BitVec 1 := Scalar.cmpi .ne v660 c0_i32_542
  let v665 : BitVec 1 := Scalar.andi v664 v661
  let v666 : BitVec 32 := Scalar.addi v660 v659
  let v667 : BitVec 32 := Scalar.select v665 v666 v660
  let c512_i32_545 : BitVec 32 := 512#32
  let v668 : BitVec 32 := Scalar.muli v667 c512_i32_545
  let v753 : Index := Scalar.indexCast v668
  let c0_621 : Index := 0#32
  ![v753.toNat, 0]
def k0_off14 (d0 : Dev nD) (c0_i32_628 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_627 : BitVec 32 := 1#32
  let v772 : BitVec 32 := Scalar.addi v2 c1_i32_627
  let v773 : BitVec 32 := Scalar.subi v772 c0_i32_628
  let c4_i32_629 : BitVec 32 := 4#32
  let v774 : BitVec 32 := Scalar.addi v773 c4_i32_629
  let c4_i32_630 : BitVec 32 := 4#32
  let c0_i32_631 : BitVec 32 := 0#32
  let v775 : BitVec 1 := Scalar.cmpi .eq c4_i32_630 c0_i32_631
  let c1_i32_632 : BitVec 32 := 1#32
  let v776 : BitVec 32 := Scalar.select v775 c1_i32_632 c4_i32_630
  let v777 : BitVec 32 := Scalar.remsi v774 v776
  let c0_i32_634 : BitVec 32 := 0#32
  let v779 : BitVec 1 := Scalar.cmpi .slt v777 c0_i32_634
  let c0_i32_635 : BitVec 32 := 0#32
  let v780 : BitVec 1 := Scalar.cmpi .slt v776 c0_i32_635
  let v781 : BitVec 1 := Scalar.xori v779 v780
  let c0_i32_633 : BitVec 32 := 0#32
  let v778 : BitVec 1 := Scalar.cmpi .ne v777 c0_i32_633
  let v782 : BitVec 1 := Scalar.andi v781 v778
  let v783 : BitVec 32 := Scalar.addi v777 v776
  let v784 : BitVec 32 := Scalar.select v782 v783 v777
  let c512_i32_636 : BitVec 32 := 512#32
  let v785 : BitVec 32 := Scalar.muli v784 c512_i32_636
  let c0_i32_641 : BitVec 32 := 0#32
  ![v785.toNat, 0]
def k0_dev15 (d0 : Dev nD) : Nat :=
  let c0_i32_640 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_639 : BitVec 32 := 1#32
  let v786 : BitVec 32 := Scalar.muli v25 c1_i32_639
  let v787 : BitVec 32 := Scalar.addi c0_i32_640 v786
  v787.toNat
def k0_off15 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_546 : BitVec 32 := 4#32
  let v669 : BitVec 32 := Scalar.addi v2 c4_i32_546
  let c1_i32_547 : BitVec 32 := 1#32
  let v670 : BitVec 32 := Scalar.subi v669 c1_i32_547
  let c4_i32_548 : BitVec 32 := 4#32
  let c0_i32_549 : BitVec 32 := 0#32
  let v671 : BitVec 1 := Scalar.cmpi .eq c4_i32_548 c0_i32_549
  let c1_i32_550 : BitVec 32 := 1#32
  let v672 : BitVec 32 := Scalar.select v671 c1_i32_550 c4_i32_548
  let v673 : BitVec 32 := Scalar.remsi v670 v672
  let c0_i32_552 : BitVec 32 := 0#32
  let v675 : BitVec 1 := Scalar.cmpi .slt v673 c0_i32_552
  let c0_i32_553 : BitVec 32 := 0#32
  let v676 : BitVec 1 := Scalar.cmpi .slt v672 c0_i32_553
  let v677 : BitVec 1 := Scalar.xori v675 v676
  let c0_i32_551 : BitVec 32 := 0#32
  let v674 : BitVec 1 := Scalar.cmpi .ne v673 c0_i32_551
  let v678 : BitVec 1 := Scalar.andi v677 v674
  let v679 : BitVec 32 := Scalar.addi v673 v672
  let v680 : BitVec 32 := Scalar.select v678 v679 v673
  let c512_i32_554 : BitVec 32 := 512#32
  let v681 : BitVec 32 := Scalar.muli v680 c512_i32_554
  let c256_i32_555 : BitVec 32 := 256#32
  let v682 : BitVec 32 := Scalar.addi v681 c256_i32_555
  let v794 : Index := Scalar.indexCast v682
  let c0_643 : Index := 0#32
  ![v794.toNat, 0]
def k0_off16 (d0 : Dev nD) (c0_i32_650 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_649 : BitVec 32 := 1#32
  let v813 : BitVec 32 := Scalar.subi v2 c1_i32_649
  let v814 : BitVec 32 := Scalar.addi v813 c0_i32_650
  let c4_i32_651 : BitVec 32 := 4#32
  let v815 : BitVec 32 := Scalar.addi v814 c4_i32_651
  let c4_i32_652 : BitVec 32 := 4#32
  let c0_i32_653 : BitVec 32 := 0#32
  let v816 : BitVec 1 := Scalar.cmpi .eq c4_i32_652 c0_i32_653
  let c1_i32_654 : BitVec 32 := 1#32
  let v817 : BitVec 32 := Scalar.select v816 c1_i32_654 c4_i32_652
  let v818 : BitVec 32 := Scalar.remsi v815 v817
  let c0_i32_656 : BitVec 32 := 0#32
  let v820 : BitVec 1 := Scalar.cmpi .slt v818 c0_i32_656
  let c0_i32_657 : BitVec 32 := 0#32
  let v821 : BitVec 1 := Scalar.cmpi .slt v817 c0_i32_657
  let v822 : BitVec 1 := Scalar.xori v820 v821
  let c0_i32_655 : BitVec 32 := 0#32
  let v819 : BitVec 1 := Scalar.cmpi .ne v818 c0_i32_655
  let v823 : BitVec 1 := Scalar.andi v822 v819
  let v824 : BitVec 32 := Scalar.addi v818 v817
  let v825 : BitVec 32 := Scalar.select v823 v824 v818
  let c512_i32_658 : BitVec 32 := 512#32
  let v826 : BitVec 32 := Scalar.muli v825 c512_i32_658
  let c256_i32_659 : BitVec 32 := 256#32
  let v827 : BitVec 32 := Scalar.addi v826 c256_i32_659
  let c0_i32_664 : BitVec 32 := 0#32
  ![v827.toNat, 0]
def k0_dev16 (d0 : Dev nD) : Nat :=
  let c0_i32_663 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_662 : BitVec 32 := 1#32
  let v828 : BitVec 32 := Scalar.muli v14 c1_i32_662
  let v829 : BitVec 32 := Scalar.addi c0_i32_663 v828
  v829.toNat
def k0_off17 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_538 : BitVec 32 := 1#32
  let v657 : BitVec 32 := Scalar.addi v2 c1_i32_538
  let c4_i32_539 : BitVec 32 := 4#32
  let c0_i32_540 : BitVec 32 := 0#32
  let v658 : BitVec 1 := Scalar.cmpi .eq c4_i32_539 c0_i32_540
  let c1_i32_541 : BitVec 32 := 1#32
  let v659 : BitVec 32 := Scalar.select v658 c1_i32_541 c4_i32_539
  let v660 : BitVec 32 := Scalar.remsi v657 v659
  let c0_i32_543 : BitVec 32 := 0#32
  let v662 : BitVec 1 := Scalar.cmpi .slt v660 c0_i32_543
  let c0_i32_544 : BitVec 32 := 0#32
  let v663 : BitVec 1 := Scalar.cmpi .slt v659 c0_i32_544
  let v664 : BitVec 1 := Scalar.xori v662 v663
  let c0_i32_542 : BitVec 32 := 0#32
  let v661 : BitVec 1 := Scalar.cmpi .ne v660 c0_i32_542
  let v665 : BitVec 1 := Scalar.andi v664 v661
  let v666 : BitVec 32 := Scalar.addi v660 v659
  let v667 : BitVec 32 := Scalar.select v665 v666 v660
  let c512_i32_545 : BitVec 32 := 512#32
  let v668 : BitVec 32 := Scalar.muli v667 c512_i32_545
  let v906 : Index := Scalar.indexCast v668
  let c1024_732 : Index := 1024#32
  ![v906.toNat, 1024]
def k0_off18 (d0 : Dev nD) (c0_i32_739 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_738 : BitVec 32 := 1#32
  let v925 : BitVec 32 := Scalar.addi v2 c1_i32_738
  let v926 : BitVec 32 := Scalar.subi v925 c0_i32_739
  let c4_i32_740 : BitVec 32 := 4#32
  let v927 : BitVec 32 := Scalar.addi v926 c4_i32_740
  let c4_i32_741 : BitVec 32 := 4#32
  let c0_i32_742 : BitVec 32 := 0#32
  let v928 : BitVec 1 := Scalar.cmpi .eq c4_i32_741 c0_i32_742
  let c1_i32_743 : BitVec 32 := 1#32
  let v929 : BitVec 32 := Scalar.select v928 c1_i32_743 c4_i32_741
  let v930 : BitVec 32 := Scalar.remsi v927 v929
  let c0_i32_745 : BitVec 32 := 0#32
  let v932 : BitVec 1 := Scalar.cmpi .slt v930 c0_i32_745
  let c0_i32_746 : BitVec 32 := 0#32
  let v933 : BitVec 1 := Scalar.cmpi .slt v929 c0_i32_746
  let v934 : BitVec 1 := Scalar.xori v932 v933
  let c0_i32_744 : BitVec 32 := 0#32
  let v931 : BitVec 1 := Scalar.cmpi .ne v930 c0_i32_744
  let v935 : BitVec 1 := Scalar.andi v934 v931
  let v936 : BitVec 32 := Scalar.addi v930 v929
  let v937 : BitVec 32 := Scalar.select v935 v936 v930
  let c512_i32_747 : BitVec 32 := 512#32
  let v938 : BitVec 32 := Scalar.muli v937 c512_i32_747
  let c1024_i32_751 : BitVec 32 := 1024#32
  ![v938.toNat, 1024]
def k0_dev17 (d0 : Dev nD) : Nat :=
  let c0_i32_750 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_749 : BitVec 32 := 1#32
  let v939 : BitVec 32 := Scalar.muli v25 c1_i32_749
  let v940 : BitVec 32 := Scalar.addi c0_i32_750 v939
  v940.toNat
def k0_off19 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_546 : BitVec 32 := 4#32
  let v669 : BitVec 32 := Scalar.addi v2 c4_i32_546
  let c1_i32_547 : BitVec 32 := 1#32
  let v670 : BitVec 32 := Scalar.subi v669 c1_i32_547
  let c4_i32_548 : BitVec 32 := 4#32
  let c0_i32_549 : BitVec 32 := 0#32
  let v671 : BitVec 1 := Scalar.cmpi .eq c4_i32_548 c0_i32_549
  let c1_i32_550 : BitVec 32 := 1#32
  let v672 : BitVec 32 := Scalar.select v671 c1_i32_550 c4_i32_548
  let v673 : BitVec 32 := Scalar.remsi v670 v672
  let c0_i32_552 : BitVec 32 := 0#32
  let v675 : BitVec 1 := Scalar.cmpi .slt v673 c0_i32_552
  let c0_i32_553 : BitVec 32 := 0#32
  let v676 : BitVec 1 := Scalar.cmpi .slt v672 c0_i32_553
  let v677 : BitVec 1 := Scalar.xori v675 v676
  let c0_i32_551 : BitVec 32 := 0#32
  let v674 : BitVec 1 := Scalar.cmpi .ne v673 c0_i32_551
  let v678 : BitVec 1 := Scalar.andi v677 v674
  let v679 : BitVec 32 := Scalar.addi v673 v672
  let v680 : BitVec 32 := Scalar.select v678 v679 v673
  let c512_i32_554 : BitVec 32 := 512#32
  let v681 : BitVec 32 := Scalar.muli v680 c512_i32_554
  let c256_i32_555 : BitVec 32 := 256#32
  let v682 : BitVec 32 := Scalar.addi v681 c256_i32_555
  let v947 : Index := Scalar.indexCast v682
  let c1024_753 : Index := 1024#32
  ![v947.toNat, 1024]
def k0_off20 (d0 : Dev nD) (c0_i32_760 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_759 : BitVec 32 := 1#32
  let v966 : BitVec 32 := Scalar.subi v2 c1_i32_759
  let v967 : BitVec 32 := Scalar.addi v966 c0_i32_760
  let c4_i32_761 : BitVec 32 := 4#32
  let v968 : BitVec 32 := Scalar.addi v967 c4_i32_761
  let c4_i32_762 : BitVec 32 := 4#32
  let c0_i32_763 : BitVec 32 := 0#32
  let v969 : BitVec 1 := Scalar.cmpi .eq c4_i32_762 c0_i32_763
  let c1_i32_764 : BitVec 32 := 1#32
  let v970 : BitVec 32 := Scalar.select v969 c1_i32_764 c4_i32_762
  let v971 : BitVec 32 := Scalar.remsi v968 v970
  let c0_i32_766 : BitVec 32 := 0#32
  let v973 : BitVec 1 := Scalar.cmpi .slt v971 c0_i32_766
  let c0_i32_767 : BitVec 32 := 0#32
  let v974 : BitVec 1 := Scalar.cmpi .slt v970 c0_i32_767
  let v975 : BitVec 1 := Scalar.xori v973 v974
  let c0_i32_765 : BitVec 32 := 0#32
  let v972 : BitVec 1 := Scalar.cmpi .ne v971 c0_i32_765
  let v976 : BitVec 1 := Scalar.andi v975 v972
  let v977 : BitVec 32 := Scalar.addi v971 v970
  let v978 : BitVec 32 := Scalar.select v976 v977 v971
  let c512_i32_768 : BitVec 32 := 512#32
  let v979 : BitVec 32 := Scalar.muli v978 c512_i32_768
  let c256_i32_769 : BitVec 32 := 256#32
  let v980 : BitVec 32 := Scalar.addi v979 c256_i32_769
  let c1024_i32_774 : BitVec 32 := 1024#32
  ![v980.toNat, 1024]
def k0_dev18 (d0 : Dev nD) : Nat :=
  let c0_i32_773 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_772 : BitVec 32 := 1#32
  let v981 : BitVec 32 := Scalar.muli v14 c1_i32_772
  let v982 : BitVec 32 := Scalar.addi c0_i32_773 v981
  v982.toNat
def k0_dev19 (d0 : Dev nD) : Nat :=
  let c0_i32_800 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_799 : BitVec 32 := 1#32
  let v1013 : BitVec 32 := Scalar.muli v25 c1_i32_799
  let v1014 : BitVec 32 := Scalar.addi c0_i32_800 v1013
  v1014.toNat
def k0_dev20 (d0 : Dev nD) : Nat :=
  let c0_i32_828 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_827 : BitVec 32 := 1#32
  let v1046 : BitVec 32 := Scalar.muli v14 c1_i32_827
  let v1047 : BitVec 32 := Scalar.addi c0_i32_828 v1046
  v1047.toNat
def k0_dev21 (d0 : Dev nD) : Nat :=
  let c0_i32_854 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_853 : BitVec 32 := 1#32
  let v1078 : BitVec 32 := Scalar.muli v25 c1_i32_853
  let v1079 : BitVec 32 := Scalar.addi c0_i32_854 v1078
  v1079.toNat
def k0_dev22 (d0 : Dev nD) : Nat :=
  let c0_i32_882 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_881 : BitVec 32 := 1#32
  let v1111 : BitVec 32 := Scalar.muli v14 c1_i32_881
  let v1112 : BitVec 32 := Scalar.addi c0_i32_882 v1111
  v1112.toNat
def k0_dev23 (d0 : Dev nD) : Nat :=
  let c0_i32_908 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_907 : BitVec 32 := 1#32
  let v1143 : BitVec 32 := Scalar.muli v25 c1_i32_907
  let v1144 : BitVec 32 := Scalar.addi c0_i32_908 v1143
  v1144.toNat
def k0_dev24 (d0 : Dev nD) : Nat :=
  let c0_i32_936 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_935 : BitVec 32 := 1#32
  let v1176 : BitVec 32 := Scalar.muli v14 c1_i32_935
  let v1177 : BitVec 32 := Scalar.addi c0_i32_936 v1176
  v1177.toNat
def k0_dev25 (d0 : Dev nD) : Nat :=
  let c0_i32_962 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_7 : BitVec 32 := 1#32
  let v15 : BitVec 32 := Scalar.addi v2 c1_i32_7
  let c4_i32_8 : BitVec 32 := 4#32
  let c0_i32_9 : BitVec 32 := 0#32
  let v16 : BitVec 1 := Scalar.cmpi .eq c4_i32_8 c0_i32_9
  let c1_i32_10 : BitVec 32 := 1#32
  let v17 : BitVec 32 := Scalar.select v16 c1_i32_10 c4_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_961 : BitVec 32 := 1#32
  let v1208 : BitVec 32 := Scalar.muli v25 c1_i32_961
  let v1209 : BitVec 32 := Scalar.addi c0_i32_962 v1208
  v1209.toNat
def k0_dev26 (d0 : Dev nD) : Nat :=
  let c0_i32_990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let c0_i32 : BitVec 32 := 0#32
  let v5 : BitVec 1 := Scalar.cmpi .eq c4_i32_2 c0_i32
  let c1_i32_3 : BitVec 32 := 1#32
  let v6 : BitVec 32 := Scalar.select v5 c1_i32_3 c4_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_989 : BitVec 32 := 1#32
  let v1241 : BitVec 32 := Scalar.muli v14 c1_i32_989
  let v1242 : BitVec 32 := Scalar.addi c0_i32_990 v1241
  v1242.toNat
abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x4096 : Shape := ⟨2, ![2048, 4096]⟩
abbrev S4096x2048 : Shape := ⟨2, ![4096, 2048]⟩
abbrev S2048x2048 : Shape := ⟨2, ![2048, 2048]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4096x2048, .bf16⟩
  | .hbm, ⟨2, _⟩ => ⟨S2048x4096, .f32⟩
  | .hbm, ⟨3, _⟩ => ⟨S4096x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S2048x2048, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Ring.Tiles.lean ====
/-
# The ring and its tiles

Four devices stand in a ring. Each of the two directions (clockwise `0`, counter-clockwise `1`) and each of the two
column halves carries six remote copies of one 256×1024 tile per device: three of the reduce-scatter, then three of
the all-gather. A copy is named by a number below 24, `4k + 2p + d`: its hop `k < 6`, its column half `p`, its
direction `d`. In that order the kernel starts the copies and waits for them.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen
open Idealize.ShloMosaic Idealize.ShloMosaic.TcCoe

/-! ## The ring -/

/-- The device that direction `d` sends to. -/
def nxt (d : Fin 2) (c : Dev nD) : Dev nD := ⟨(c.val + 1 + 2 * d.val) % 4, Nat.mod_lt _ (by decide)⟩
/-- The device that direction `d` receives from. -/
def prv (d : Fin 2) (c : Dev nD) : Dev nD := ⟨(c.val + 3 - 2 * d.val) % 4, Nat.mod_lt _ (by decide)⟩
/-- The row chunk that device `c` handles at step `k` of direction `d`: `c - k` clockwise, `c + k` the other way. -/
def pos (d : Fin 2) (c : Dev nD) (k : ℕ) : Fin 4 := ⟨(c.val + (3 - 2 * d.val) * k) % 4, Nat.mod_lt _ (by decide)⟩

theorem prv_nxt (d : Fin 2) (c : Dev nD) : prv d (nxt d c) = c := by revert d c; decide
theorem nxt_prv (d : Fin 2) (c : Dev nD) : nxt d (prv d c) = c := by revert d c; decide
theorem pos_mod (d : Fin 2) (c : Dev nD) (k : ℕ) : pos d c (k % 4) = pos d c k := by
  apply Fin.ext; unfold pos; dsimp only
  rw [Nat.add_mod, Nat.mul_mod, Nat.mod_mod, ← Nat.mul_mod, ← Nat.add_mod]
/-- What the neighbour handles one step later is what this device handles now. -/
theorem pos_nxt (d : Fin 2) (c : Dev nD) (k : ℕ) : pos d (nxt d c) (k + 1) = pos d c k := by
  rw [← pos_mod, ← pos_mod d c k, Nat.add_mod]
  have : ∀ k : Fin 4, pos d (nxt d c) ((k.val + 1) % 4) = pos d c k.val := by revert d c; decide
  exact this ⟨k % 4, Nat.mod_lt _ (by decide)⟩

/-- One direction's neighbour map, a rotation of the ring. -/
def turn (d : Fin 2) : Dev nD ≃ Dev nD := ⟨nxt d, prv d, prv_nxt d, nxt_prv d⟩

/-! ## The copies -/

abbrev kd (i : Fin 24) : Fin 2 := ⟨i.val % 2, Nat.mod_lt _ (by decide)⟩
abbrev kp (i : Fin 24) : Fin 2 := ⟨i.val / 2 % 2, Nat.mod_lt _ (by decide)⟩
abbrev kk (i : Fin 24) : ℕ := i.val / 4

/-! ## The buffers and their tiles -/

abbrev aM : Memref sig .tc .vmem S2048x1024 .bf16 := Memref.whole cc0_stg0_0
abbrev bM : Memref sig .tc .vmem S1024x2048 .bf16 := Memref.whole cc0_stg1_0
abbrev oM : Memref sig .tc .vmem S2048x2048 .bf16 := Memref.whole cc0_stg2_0
abbrev pM : Memref sig .tc .vmem S2048x2048 .bf16 := Memref.whole cc0_scratch0
abbrev bbM : Memref sig .tc .vmem S1024x2048 .bf16 := Memref.whole cc0_scratch1
abbrev cM : Fin 2 → Memref sig .tc .vmem S2x3x256x1024 .bf16
  | 0 => Memref.whole cc0_scratch2
  | 1 => Memref.whole cc0_scratch3

/-- The corner of the tile of direction `d`, half `p`, in row chunk `r`. -/
abbrev tileOff (d p : Fin 2) (r : Fin 4) : Fin 2 → ℕ := ![512 * r.val + 256 * d.val, 1024 * p.val]
theorem tileOff_inb (d p : Fin 2) (r : Fin 4) : ∀ a, tileOff d p r a + S256x1024.size a ≤ S2048x2048.size a := by
  revert d p r; decide
abbrev tileR (d p : Fin 2) (r : Fin 4) : Rect S2048x2048 := Rect.unit (tileOff d p r) S256x1024.size (tileOff_inb d p r)

abbrev chunkOff (r : Fin 4) : Fin 2 → ℕ := ![512 * r.val, 0]
theorem chunkOff_inb (r : Fin 4) : ∀ a, chunkOff r a + S512x2048.size a ≤ S2048x2048.size a := by revert r; decide
abbrev chunkR (r : Fin 4) : Rect S2048x2048 := Rect.unit (chunkOff r) S512x2048.size (chunkOff_inb r)

abbrev rowsOff_inb (r : Fin 4) : ∀ a, chunkOff r a + S512x1024.size a ≤ S2048x1024.size a := by revert r; decide
/-- The rows of the device's block of A that make row chunk `r`. -/
abbrev rowsR (r : Fin 4) : Rect S2048x1024 := Rect.unit (chunkOff r) S512x1024.size (rowsOff_inb r)

abbrev subOff (d p : Fin 2) : Fin 2 → ℕ := ![256 * d.val, 1024 * p.val]
theorem subOff_inb (d p : Fin 2) : ∀ a, subOff d p a + S256x1024.size a ≤ S512x2048.size a := by revert d p; decide
/-- A tile within its row chunk. -/
abbrev subR (d p : Fin 2) : Rect S512x2048 := Rect.unit (subOff d p) S256x1024.size (subOff_inb d p)

abbrev slotOff (p : Fin 2) (k : Fin 3) : Fin 4 → ℕ := ![p.val, k.val, 0, 0]
theorem slotOff_inb (p : Fin 2) (k : Fin 3) : ∀ a, slotOff p k a + S1x1x256x1024.size a ≤ S2x3x256x1024.size a := by
  revert p k; decide
abbrev slotR (p : Fin 2) (k : Fin 3) : Rect S2x3x256x1024 := Rect.unit (slotOff p k) S1x1x256x1024.size (slotOff_inb p k)

/-- The tile of the partial products, -/
abbrev tP (d p : Fin 2) (r : Fin 4) : Memref sig .tc .vmem S256x1024 .bf16 := pM.slice (tileR d p r) (fun _ => rfl)
/-- of the result, -/
abbrev tO (d p : Fin 2) (r : Fin 4) : Memref sig .tc .vmem S256x1024 .bf16 := oM.slice (tileR d p r) (fun _ => rfl)
/-- and the slot of the landing buffer of direction `d` for hop `k`, as a 4-d slice and as a tile. -/
abbrev tC4 (d p : Fin 2) (k : Fin 3) : Memref sig .tc .vmem S1x1x256x1024 .bf16 := (cM d).slice (slotR p k) (fun _ => rfl)
abbrev tC (d p : Fin 2) (k : Fin 3) : Memref sig .tc .vmem S256x1024 .bf16 :=
  (tC4 d p k).squeeze S256x1024 squeezes_S1x1x256x1024_S256x1024
/-- A row chunk of the partial products. -/
abbrev chP (r : Fin 4) : Memref sig .tc .vmem S512x2048 .bf16 := pM.slice (chunkR r) (fun _ => rfl)

/-- The hop of a reduce-scatter copy. -/
def hop (i : Fin 24) : Fin 3 := ⟨kk i % 3, Nat.mod_lt _ (by decide)⟩

/-- What copy `i` reads on device `c`: its tile of the partial products, then of the result. -/
def srcT (i : Fin 24) (c : Dev nD) : Memref sig .tc .vmem S256x1024 .bf16 :=
  if i.val < 12 then tP (kd i) (kp i) (pos (kd i) c (kk i)) else tO (kd i) (kp i) (pos (kd i) c (kk i))
/-- What copy `i` writes on the device `c` that receives it. -/
def dstT (i : Fin 24) (c : Dev nD) : Memref sig .tc .vmem S256x1024 .bf16 :=
  if i.val < 12 then tC (kd i) (kp i) (hop i) else tO (kd i) (kp i) (pos (kd i) c (kk i + 1))

/-! ## The semaphores -/

/-- The barrier semaphore of the runtime. -/
abbrev barS : Sem sig := (SemArray.scalar (sig.barrier 0 rfl) : Sems sig S_).sem
/-- The sender's and the receiver's semaphore of copy `i`. -/
def sS (i : Fin 24) : DmaSem sig := (⟨3 + 24 * (kd i).val + 6 * (kp i).val + kk i, by
  revert i; decide⟩ : Fin 51)
def rS (i : Fin 24) : DmaSem sig := (⟨15 + 24 * (kd i).val + 6 * (kp i).val + kk i, by
  revert i; decide⟩ : Fin 51)

/-- The credit of one tile's copy. -/
abbrev N : ℕ := (tP 0 0 0).view.dmaCredit
theorem N_pos : 0 < N := View.dmaCredit_pos _ (by decide)

/-! ## The corners and devices the program computes -/

/-! The rows of A and the row chunks of the products: the device's own, then the one `r` further. -/
theorem off1_eq : ∀ c : Dev nD, k0_off1 c = chunkOff (pos 1 c 0) := by decide +kernel
theorem off2_eq : ∀ c : Dev nD, k0_off2 c = chunkOff (pos 1 c 0) := by decide +kernel
theorem off7_eq : ∀ (c : Dev nD) (r : Fin 3), k0_off7 c (BitVec.ofNat 32 (1 + r.val)) = chunkOff (pos 1 c (1 + r.val)) := by
  decide +kernel
theorem off8_eq : ∀ (c : Dev nD) (r : Fin 3), k0_off8 c (BitVec.ofNat 32 (1 + r.val)) = chunkOff (pos 1 c (1 + r.val)) := by
  decide +kernel

/-! The tiles a reduce-scatter hop sends, -/
theorem off3_eq : ∀ (c : Dev nD) (k : Fin 3), k0_off3 c (BitVec.ofNat 32 k.val) = tileOff 0 0 (pos 0 c k.val) := by
  decide +kernel
theorem off4_eq : ∀ (c : Dev nD) (k : Fin 3), k0_off4 c (BitVec.ofNat 32 k.val) = tileOff 1 0 (pos 1 c k.val) := by
  decide +kernel
theorem off5_eq : ∀ (c : Dev nD) (k : Fin 3), k0_off5 c (BitVec.ofNat 32 k.val) = tileOff 0 1 (pos 0 c k.val) := by
  decide +kernel
theorem off6_eq : ∀ (c : Dev nD) (k : Fin 3), k0_off6 c (BitVec.ofNat 32 k.val) = tileOff 1 1 (pos 1 c k.val) := by
  decide +kernel

/-! those it adds into, -/
theorem off9_eq : ∀ (c : Dev nD) (k : Fin 3), k0_off9 c (BitVec.ofNat 32 k.val) = tileOff 0 0 (pos 0 c (k.val + 1)) := by
  decide +kernel
theorem off10_eq : ∀ (c : Dev nD) (k : Fin 3), k0_off10 c (BitVec.ofNat 32 k.val) = tileOff 1 0 (pos 1 c (k.val + 1)) := by
  decide +kernel
theorem off11_eq : ∀ (c : Dev nD) (k : Fin 3), k0_off11 c (BitVec.ofNat 32 k.val) = tileOff 0 1 (pos 0 c (k.val + 1)) := by
  decide +kernel
theorem off12_eq : ∀ (c : Dev nD) (k : Fin 3), k0_off12 c (BitVec.ofNat 32 k.val) = tileOff 1 1 (pos 1 c (k.val + 1)) := by
  decide +kernel

/-! the finished ones, -/
theorem off13_eq : ∀ c : Dev nD, k0_off13 c = tileOff 0 0 (pos 0 c 3) := by decide +kernel
theorem off15_eq : ∀ c : Dev nD, k0_off15 c = tileOff 1 0 (pos 1 c 3) := by decide +kernel
theorem off17_eq : ∀ c : Dev nD, k0_off17 c = tileOff 0 1 (pos 0 c 3) := by decide +kernel
theorem off19_eq : ∀ c : Dev nD, k0_off19 c = tileOff 1 1 (pos 1 c 3) := by decide +kernel

/-! and those an all-gather hop sends. -/
theorem off14_eq : ∀ (c : Dev nD) (k : Fin 3), k0_off14 c (BitVec.ofNat 32 k.val) = tileOff 0 0 (pos 0 c (3 + k.val)) := by
  decide +kernel
theorem off16_eq : ∀ (c : Dev nD) (k : Fin 3), k0_off16 c (BitVec.ofNat 32 k.val) = tileOff 1 0 (pos 1 c (3 + k.val)) := by
  decide +kernel
theorem off18_eq : ∀ (c : Dev nD) (k : Fin 3), k0_off18 c (BitVec.ofNat 32 k.val) = tileOff 0 1 (pos 0 c (3 + k.val)) := by
  decide +kernel
theorem off20_eq : ∀ (c : Dev nD) (k : Fin 3), k0_off20 c (BitVec.ofNat 32 k.val) = tileOff 1 1 (pos 1 c (3 + k.val)) := by
  decide +kernel

/-! The barrier signals go both ways; copy `i` goes to `nxt (kd i) c`. -/
theorem dev1_eq : ∀ c : Dev nD, (⟨k0_dev1 c, k0_dev1_lt c⟩ : Dev nD) = nxt 1 c := by decide +kernel
theorem dev2_eq : ∀ c : Dev nD, (⟨k0_dev2 c, k0_dev2_lt c⟩ : Dev nD) = nxt 0 c := by decide +kernel
theorem dev3_eq : ∀ c : Dev nD, (⟨k0_dev3 c, k0_dev3_lt c⟩ : Dev nD) = nxt 0 c := by decide +kernel
theorem dev4_eq : ∀ c : Dev nD, (⟨k0_dev4 c, k0_dev4_lt c⟩ : Dev nD) = nxt 1 c := by decide +kernel
theorem dev5_eq : ∀ c : Dev nD, (⟨k0_dev5 c, k0_dev5_lt c⟩ : Dev nD) = nxt 0 c := by decide +kernel
theorem dev6_eq : ∀ c : Dev nD, (⟨k0_dev6 c, k0_dev6_lt c⟩ : Dev nD) = nxt 1 c := by decide +kernel
theorem dev7_eq : ∀ c : Dev nD, (⟨k0_dev7 c, k0_dev7_lt c⟩ : Dev nD) = nxt 0 c := by decide +kernel
theorem dev8_eq : ∀ c : Dev nD, (⟨k0_dev8 c, k0_dev8_lt c⟩ : Dev nD) = nxt 1 c := by decide +kernel
theorem dev9_eq : ∀ c : Dev nD, (⟨k0_dev9 c, k0_dev9_lt c⟩ : Dev nD) = nxt 0 c := by decide +kernel
theorem dev10_eq : ∀ c : Dev nD, (⟨k0_dev10 c, k0_dev10_lt c⟩ : Dev nD) = nxt 1 c := by decide +kernel
theorem dev11_eq : ∀ c : Dev nD, (⟨k0_dev11 c, k0_dev11_lt c⟩ : Dev nD) = nxt 0 c := by decide +kernel
theorem dev12_eq : ∀ c : Dev nD, (⟨k0_dev12 c, k0_dev12_lt c⟩ : Dev nD) = nxt 1 c := by decide +kernel
theorem dev13_eq : ∀ c : Dev nD, (⟨k0_dev13 c, k0_dev13_lt c⟩ : Dev nD) = nxt 0 c := by decide +kernel
theorem dev14_eq : ∀ c : Dev nD, (⟨k0_dev14 c, k0_dev14_lt c⟩ : Dev nD) = nxt 1 c := by decide +kernel
theorem dev15_eq : ∀ c : Dev nD, (⟨k0_dev15 c, k0_dev15_lt c⟩ : Dev nD) = nxt 0 c := by decide +kernel
theorem dev16_eq : ∀ c : Dev nD, (⟨k0_dev16 c, k0_dev16_lt c⟩ : Dev nD) = nxt 1 c := by decide +kernel
theorem dev17_eq : ∀ c : Dev nD, (⟨k0_dev17 c, k0_dev17_lt c⟩ : Dev nD) = nxt 0 c := by decide +kernel
theorem dev18_eq : ∀ c : Dev nD, (⟨k0_dev18 c, k0_dev18_lt c⟩ : Dev nD) = nxt 1 c := by decide +kernel
theorem dev19_eq : ∀ c : Dev nD, (⟨k0_dev19 c, k0_dev19_lt c⟩ : Dev nD) = nxt 0 c := by decide +kernel
theorem dev20_eq : ∀ c : Dev nD, (⟨k0_dev20 c, k0_dev20_lt c⟩ : Dev nD) = nxt 1 c := by decide +kernel
theorem dev21_eq : ∀ c : Dev nD, (⟨k0_dev21 c, k0_dev21_lt c⟩ : Dev nD) = nxt 0 c := by decide +kernel
theorem dev22_eq : ∀ c : Dev nD, (⟨k0_dev22 c, k0_dev22_lt c⟩ : Dev nD) = nxt 1 c := by decide +kernel
theorem dev23_eq : ∀ c : Dev nD, (⟨k0_dev23 c, k0_dev23_lt c⟩ : Dev nD) = nxt 0 c := by decide +kernel
theorem dev24_eq : ∀ c : Dev nD, (⟨k0_dev24 c, k0_dev24_lt c⟩ : Dev nD) = nxt 1 c := by decide +kernel
theorem dev25_eq : ∀ c : Dev nD, (⟨k0_dev25 c, k0_dev25_lt c⟩ : Dev nD) = nxt 0 c := by decide +kernel
theorem dev26_eq : ∀ c : Dev nD, (⟨k0_dev26 c, k0_dev26_lt c⟩ : Dev nD) = nxt 1 c := by decide +kernel

end Cert.Ring
end
end
-- ==== Proof.Ring.Contents.lean ====
/-
# What the tiles hold

Over any float values `F`, from the devices' blocks `A c` and `B c`: the tile of the partial products of each row
chunk, the running sums that travel along the ring, the finished tiles, and so what each copy carries.
-/
module

public import proofs.«01_k».proof.Proof.Ring.Tiles

@[expose] public section

noncomputable section

namespace Cert.Ring

open Cert.KernelIdeal Cert.KernelIdeal.Gen
open Idealize.ShloMosaic Idealize.ShloMosaic.TcCoe

variable {F : FTy → Type} [FloatOps F]

/-- The contents of one 256×1024 tile. -/
abbrev Tile (F : FTy → Type) [FloatOps F] : Type := Vec F S256x1024 .bf16

/-- A tile as the landing buffer shows it to a load. -/
def slot4 (x : Tile F) : Vec F S1x1x256x1024 .bf16 := fun j => x (Shape.reshapeEquiv shapeCasts_S1x1x256x1024_S256x1024.symm j)

/-- A sum of two tiles, as the kernel rounds it: its own partial product and what landed. -/
def accOp (x y : Tile F) : Tile F := k0_pay6 x (slot4 y)

variable (A : Dev nD → Vec F S2048x1024 .bf16) (B : Dev nD → Vec F S1024x2048 .bf16)

/-- The rows of `A c` that make row chunk `r`, -/
def rowsV (c : Dev nD) (r : Fin 4) : Vec F S512x1024 .bf16 := fun j => A c ((rowsR r).emb j)
/-- the partial product of that chunk, -/
def chunkV (c : Dev nD) (r : Fin 4) : Vec F S512x2048 .bf16 := k0_pay2 (rowsV A c r) (k0_pay1 (B c))
/-- and one tile of it. -/
def tileV (d p : Fin 2) (r : Fin 4) (c : Dev nD) : Tile F := fun j => chunkV A B c r ((subR d p).emb j)

/-- The running sum on device `c` after hop `k`: its own tile, and what the device before it had. -/
def acc (d p : Fin 2) : ℕ → Dev nD → Tile F
  | 0, c => tileV A B d p (pos d c 0) c
  | k + 1, c => accOp (tileV A B d p (pos d c (k + 1)) c) (acc d p k (prv d c))

/-- The device that finishes row chunk `r` in direction `d`. -/
def owner (d : Fin 2) (r : Fin 4) : Dev nD := prv d ⟨r.val, r.isLt⟩
theorem owner_pos (d : Fin 2) (c : Dev nD) : owner d (pos d c 3) = c := by revert d c; decide
theorem pos_owner (d : Fin 2) (r : Fin 4) : pos d (owner d r) 3 = r := by revert d r; decide

/-- The finished tile of the result. -/
def outV (d p : Fin 2) (r : Fin 4) : Tile F := k0_pay18 (acc A B d p 3 (owner d r))

/-- What copy `i` carries away from device `c`, -/
def sval (i : Fin 24) (c : Dev nD) : Tile F :=
  if i.val < 12 then acc A B (kd i) (kp i) (kk i) c else outV A B (kd i) (kp i) (pos (kd i) c (kk i))
/-- and brings to it. -/
def rval (i : Fin 24) (c : Dev nD) : Tile F := sval A B i (prv (kd i) c)

theorem rval_nxt (i : Fin 24) (c : Dev nD) : rval A B i (nxt (kd i) c) = sval A B i c := by unfold rval; rw [prv_nxt]

/-- Copy `i + 4`, four numbers on: the next hop of the same direction and half. -/
def up (i : Fin 24) : Fin 24 := ⟨(i.val + 4) % 24, Nat.mod_lt _ (by decide)⟩

theorem kd_up (i : Fin 24) : kd (up i) = kd i := by revert i; decide
theorem kp_up (i : Fin 24) : kp (up i) = kp i := by revert i; decide
theorem kk_up (i : Fin 24) (h : i.val < 20) : kk (up i) = kk i + 1 := by revert h; revert i; decide

/-- An all-gather copy lands where the next one starts, with what that one carries. -/
theorem dst_up (i : Fin 24) (c : Dev nD) (h : 12 ≤ i.val) (h' : i.val < 20) : dstT i c = srcT (up i) c := by
  have hu : ¬ (up i).val < 12 := by revert h h'; revert i; decide
  unfold dstT srcT; rw [if_neg (by omega), if_neg hu, kd_up, kp_up, kk_up i h']

theorem rval_up (i : Fin 24) (c : Dev nD) (h : 12 ≤ i.val) (h' : i.val < 20) : rval A B i c = sval A B (up i) c := by
  have hu : ¬ (up i).val < 12 := by revert h h'; revert i; decide
  unfold rval sval; rw [if_neg (by omega), if_neg hu, kd_up, kp_up, kk_up i h']
  have := pos_nxt (kd i) (prv (kd i) c) (kk i)
  rw [nxt_prv] at this; rw [this]

/-- A sum after a reduce-scatter copy has landed. -/
theorem acc_step (i : Fin 24) (c : Dev nD) (h : i.val < 12) :
    accOp (tileV A B (kd i) (kp i) (pos (kd i) c (kk i + 1)) c) (rval A B i c) = acc A B (kd i) (kp i) (kk i + 1) c := by
  unfold rval sval; rw [if_pos h]; rfl

theorem sval_up (i : Fin 24) (c : Dev nD) (h : i.val < 8) : sval A B (up i) c = acc A B (kd i) (kp i) (kk i + 1) c := by
  have hu : (up i).val < 12 := by revert h; revert i; decide
  unfold sval; rw [if_pos hu, kd_up, kp_up, kk_up i (by omega)]

theorem sval_fin (i : Fin 24) (c : Dev nD) (h : 12 ≤ i.val) (h' : i.val < 16) :
    sval A B i c = k0_pay18 (acc A B (kd i) (kp i) 3 c) := by
  have hk : kk i = 3 := by revert h h'; revert i; decide
  unfold sval outV; rw [if_neg (by omega), hk, owner_pos]

theorem sval_first (i : Fin 24) (c : Dev nD) (h : i.val < 4) : sval A B i c = tileV A B (kd i) (kp i) (pos (kd i) c 0) c := by
  have hk : kk i = 0 := by revert h; revert i; decide
  unfold sval; rw [if_pos (by omega), hk]; rfl

end Cert.Ring
end
end
-- ==== Proof.Ring.Cells.lean ====
/-
# The semaphores as cells of one round

Every device has a barrier cell with two duties, one paid by each neighbour with the landing tiles for that direction,
and for each copy a sender's and a receiver's cell with one duty. What a device still owes falls with each copy it starts;
the levels order the cells so that no wait can be part of a cycle.
-/
module

public import proofs.«01_k».proof.Proof.Ring.Contents

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 2)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (A : Dev nD → Vec F S2048x1024 .bf16) (B : Dev nD → Vec F S1024x2048 .bf16)

/-! ## The cells -/

abbrev barCell (c : Dev nD) : GSem nD τ sig := ((c : Thread nD τ), .reg barS)
abbrev sCell (i : Fin 24) (c : Dev nD) : GSem nD τ sig := ((c : Thread nD τ), .dma (sS i))
abbrev rCell (i : Fin 24) (c : Dev nD) : GSem nD τ sig := ((c : Thread nD τ), .dma (rS i))

/-- Which copy a DMA semaphore serves, as its receiver's (`true`) or its sender's. -/
def code (q : DmaSem sig) : Option (Bool × Fin 24) :=
  let n := Fin.val (n := 51) q
  if n < 3 then none
  else some (decide (12 ≤ (n - 3) % 24), ⟨(4 * ((n - 3) % 6) + 2 * ((n - 3) % 12 / 6) + (n - 3) / 24) % 24, Nat.mod_lt _ (by decide)⟩)

theorem code_s (i : Fin 24) : code (sS i) = some (false, i) := by revert i; decide
theorem code_r (i : Fin 24) : code (rS i) = some (true, i) := by revert i; decide

/-! ## Tiles owned -/

/-- Device `c` holds tile `t` with contents `X`, -/
abbrev own (c : Dev nD) {s : Shape} (t : Memref sig .tc .vmem s .bf16) (X : Vec F s .bf16) : sProp 𝕄 :=
  owns (c : Thread nD τ) t fullShare X
/-- or with whatever contents. -/
def ownE (c : Dev nD) {s : Shape} (t : Memref sig .tc .vmem s .bf16) : sProp 𝕄 :=
  iprop(∃ X : Vec F s .bf16, own c t X)

instance ownE_storable (c : Dev nD) {s : Shape} (t : Memref sig .tc .vmem s .bf16) :
    BI.Storable (upEmb : UEmb _ 𝕄) (ownE (F := F) c t) := by unfold ownE; infer_instance

/-- The number of the `e`-th copy of direction `d`. -/
def dirKey (d : Fin 2) (e : Fin 12) : Fin 24 := ⟨2 * e.val + d.val, by omega⟩

theorem kd_dirKey (d : Fin 2) (e : Fin 12) : kd (dirKey d e) = d := by revert d e; decide

/-! ## The schedule -/

/-- What `nxt d c`'s barrier signal hands `c`: all the tiles there that `c` will write. -/
def barPay (d : Fin 2) (c : Dev nD) : sProp 𝕄 :=
  bigSep Finset.univ fun e : Fin 12 => ownE (nxt d c) (dstT (dirKey d e) (nxt d c))

/-- What a copy's end hands its sender and its receiver. -/
def xferPay (x : Option (Bool × Fin 24)) (c : Dev nD) : sProp 𝕄 :=
  match x with
  | none => iprop(emp)
  | some (false, i) => own c (srcT i c) (sval A B i c)
  | some (true, i) => own c (dstT i c) (rval A B i c)

instance barPay_storable (d : Fin 2) (c : Dev nD) : BI.Storable (upEmb : UEmb _ 𝕄) (barPay (F := F) d c) := by
  unfold barPay; infer_instance
instance xferPay_storable (x : Option (Bool × Fin 24)) (c : Dev nD) :
    BI.Storable (upEmb : UEmb _ 𝕄) (xferPay A B x c) := by
  unfold xferPay; split <;> infer_instance

def semDuties : SemLoc sig → Finset (Fin 2)
  | .reg s => if s = barS then Finset.univ else ∅
  | .dma q => if (code q).isSome then {0} else ∅

def semAmount : SemLoc sig → ℕ
  | .reg _ => 1
  | .dma _ => N

def semPay (d : Fin 2) (c : Dev nD) : SemLoc sig → sProp 𝕄
  | .reg _ => barPay d c
  | .dma q => xferPay A B (code q) c

def ringRd : Rounds.Schedule (GSem nD τ sig) (Fin 2) 𝕄 where
  duties g r := if r = 0 ∧ g.1.2 = .tc then semDuties g.2 else ∅
  unitless _ := False
  amount g _ _ := semAmount g.2
  payload g _ d := semPay A B d g.1.1 g.2
  amount_pos g _ _ _ := by
    rcases g with ⟨_, s | q⟩
    · exact Nat.one_pos
    · exact N_pos

instance ringRd_payload_storable (g : GSem nD τ sig) (r : ℕ) (d : Fin 2) :
    BI.Storable (upEmb : UEmb _ 𝕄) ((ringRd A B).payload g r d) := by
  show BI.Storable upEmb (semPay A B d g.1.1 g.2)
  unfold semPay; split <;> infer_instance

section Sched
variable (c : Dev nD) (i : Fin 24)

theorem duties_bar : (ringRd A B).duties (barCell c) 0 = Finset.univ := by
  dsimp only [ringRd]; rw [if_pos ⟨rfl, rfl⟩]; dsimp only [semDuties]; rw [if_pos rfl]
theorem duties_s : (ringRd A B).duties (sCell i c) 0 = {0} := by
  dsimp only [ringRd]; rw [if_pos ⟨rfl, rfl⟩]; dsimp only [semDuties]; rw [code_s]; rfl
theorem duties_r : (ringRd A B).duties (rCell i c) 0 = {0} := by
  dsimp only [ringRd]; rw [if_pos ⟨rfl, rfl⟩]; dsimp only [semDuties]; rw [code_r]; rfl
theorem duties_later (g : GSem nD τ sig) : ∀ r, 0 + 1 ≤ r → (ringRd A B).duties g r = ∅ :=
  fun r hr => by dsimp only [ringRd]; rw [if_neg fun h => by omega]

theorem expect_bar : (ringRd A B).expect (barCell c) 0 = 2 := by
  unfold Schedule.expect Schedule.amountOf
  rw [duties_bar]; rfl
theorem expect_s : (ringRd A B).expect (sCell i c) 0 = N := by
  unfold Schedule.expect Schedule.amountOf; rw [duties_s, Finset.sum_singleton]; rfl
theorem expect_r : (ringRd A B).expect (rCell i c) 0 = N := by
  unfold Schedule.expect Schedule.amountOf; rw [duties_r, Finset.sum_singleton]; rfl

theorem pay_s : (ringRd A B).payload (sCell i c) 0 0 = own c (srcT i c) (sval A B i c) := by
  show xferPay A B (code (sS i)) c = _; rw [code_s]; rfl
theorem pay_r : (ringRd A B).payload (rCell i c) 0 0 = own c (dstT i c) (rval A B i c) := by
  show xferPay A B (code (rS i)) c = _; rw [code_r]; rfl

theorem rest_bar : bigSep ((ringRd A B).duties (barCell c) 0 \ ∅) (fun d => (ringRd A B).payload (barCell c) 0 d)
    = iprop(barPay (F := F) 0 c ∗ barPay (F := F) 1 c) := by
  rw [Finset.sdiff_empty, duties_bar, bigSep_fin_two]; rfl
theorem rest_s : bigSep ((ringRd A B).duties (sCell i c) 0 \ ∅) (fun d => (ringRd A B).payload (sCell i c) 0 d)
    = own c (srcT i c) (sval A B i c) := by
  rw [Finset.sdiff_empty, duties_s, bigSep_singleton, pay_s]
theorem rest_r : bigSep ((ringRd A B).duties (rCell i c) 0 \ ∅) (fun d => (ringRd A B).payload (rCell i c) 0 d)
    = own c (dstT i c) (rval A B i c) := by
  rw [Finset.sdiff_empty, duties_r, bigSep_singleton, pay_r]

end Sched

/-! ## What a device owes; the levels -/

/-- What device `c` owes when it has started all copies but the last `n`. -/
def owed (c : Dev nD) : ℕ → CellTallies nD τ sig Unit
  | 0 => 0
  | n + 1 => owed c n + (if h : 23 - n < 24 then tallyAt (rCell ⟨23 - n, h⟩ (nxt (kd ⟨23 - n, h⟩) c)) () N else 0)

theorem owed_step (i : Fin 24) (c : Dev nD) :
    owed c (24 - i.val) = owed c (24 - (i.val + 1)) + tallyAt (rCell i (nxt (kd i) c)) () N := by
  obtain ⟨n, hn⟩ : ∃ n, 24 - i.val = n + 1 := ⟨23 - i.val, by omega⟩
  have h1 : 24 - (i.val + 1) = n := by omega
  have h2 : (23 - n) = i.val := by omega
  rw [hn, h1]
  show owed c n + _ = _
  congr 1
  rw [dif_pos (by omega)]
  have h3 : (⟨23 - n, by omega⟩ : Fin 24) = i := Fin.ext h2
  rw [h3]

theorem owed_zero (c : Dev nD) : owed c 0 = 0 := rfl
attribute [irreducible] owed

/-- What it owes at launch: one unit to each neighbour's barrier, too. -/
def owed₁ (c : Dev nD) : CellTallies nD τ sig Unit := owed c 24 + tallyAt (barCell (nxt 0 c)) () 1
def owed₀ (c : Dev nD) : CellTallies nD τ sig Unit := owed₁ c + tallyAt (barCell (nxt 1 c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def semLev : SemLoc sig → ℕ
  | .reg _ => 1
  | .dma q => match code q with
    | some (true, i) => 2 + i.val
    | _ => 0
def lv (g : GSem nD τ sig) (_ : Unit) : ℕ := semLev g.2

theorem lv_s (c : Dev nD) (i : Fin 24) (u : Unit) : lv (sCell i c) u = 0 := by
  show semLev (.dma (sS i)) = _; dsimp only [semLev]; rw [code_s]
theorem lv_r (c : Dev nD) (i : Fin 24) (u : Unit) : lv (rCell i c) u = 2 + i.val := by
  show semLev (.dma (rS i)) = _; dsimp only [semLev]; rw [code_r]
theorem lv_bar (c : Dev nD) (u : Unit) : lv (barCell c) u = 1 := rfl

/-- All that is owed with `n` copies left is one of those copies' receivers. -/
theorem owed_pos {c : Dev nD} {g : GSem nD τ sig} {u : Unit} {n : ℕ} (hn : n ≤ 24) (h : 0 < owed c n g u) :
    ∃ i : Fin 24, 24 ≤ i.val + n ∧ g = rCell i (nxt (kd i) c) := by
  induction n with
  | zero => rw [owed_zero] at h; exact absurd h (Nat.lt_irrefl 0)
  | succ n ih =>
    obtain ⟨i, hi⟩ : ∃ i : Fin 24, i.val = 23 - n := ⟨⟨23 - n, by omega⟩, rfl⟩
    have e := owed_step i c
    rw [show 24 - i.val = n + 1 by omega, show 24 - (i.val + 1) = n by omega] at e
    rw [e, Pi.add_apply, Finsupp.add_apply, tallyAt_apply] at h
    by_cases hg : g = rCell i (nxt (kd i) c) ∧ u = ()
    · exact ⟨i, by omega, hg.1⟩
    · rw [if_neg hg, Nat.add_zero] at h
      obtain ⟨j, hj, e⟩ := ih (by omega) h
      exact ⟨j, by omega, e⟩

theorem owed₀_pos {c : Dev nD} {g : GSem nD τ sig} {u : Unit} (h : 0 < owed₀ c g u) :
    (∃ i : Fin 24, g = rCell i (nxt (kd i) c)) ∨ ∃ d, g = barCell (nxt d c) := by
  unfold owed₀ owed₁ at h
  rw [Pi.add_apply, Finsupp.add_apply, Pi.add_apply, Finsupp.add_apply, tallyAt_apply, tallyAt_apply] at h
  by_cases h0 : g = barCell (nxt 0 c)
  · exact Or.inr ⟨0, h0⟩
  by_cases h1 : g = barCell (nxt 1 c)
  · exact Or.inr ⟨1, h1⟩
  rw [if_neg (fun h => h0 h.1), if_neg (fun h => h1 h.1)] at h
  obtain ⟨i, -, e⟩ := owed_pos (le_refl 24) h
  exact Or.inl ⟨i, e⟩

/-- A wait at level `l` of a device that owes `n` copies' receivers, all of them above. -/
theorem mayWait_low (c : Dev nD) (sm : SemLoc sig) (n : ℕ) (hn : n ≤ 24) (hl : semLev sm < 26 - n) :
    (levAts L lv : sProp 𝕄) ⊢ MayWait (c : Thread nD τ) sm () (owed c n) :=
  MayOwe.of_cut (L := L) (lev := lv) (semLev sm)
    (fun p hp => by rw [Finset.mem_singleton.mp hp, L_tc]; exact Finset.mem_singleton_self _)
    (fun g u hg => by obtain ⟨i, -, rfl⟩ := owed_pos hn hg; exact Finset.mem_singleton_self _)
    (fun p hp => by rw [Finset.mem_singleton.mp hp]; exact le_refl _)
    (fun g u hg => by obtain ⟨i, hi, rfl⟩ := owed_pos hn hg; rw [lv_r]; omega)

theorem mayWait_s (c : Dev nD) (i : Fin 24) (n : ℕ) (hn : n ≤ 24) :
    (levAts L lv : sProp 𝕄) ⊢ MayWait (c : Thread nD τ) (.dma (sS i)) () (owed c n) :=
  mayWait_low c _ n hn (by have := lv_s c i (); change semLev _ = _ at this; rw [this]; omega)
theorem mayWait_r (c : Dev nD) (i : Fin 24) (n : ℕ) (hn : n + i.val < 24) :
    (levAts L lv : sProp 𝕄) ⊢ MayWait (c : Thread nD τ) (.dma (rS i)) () (owed c n) :=
  mayWait_low c _ n (by omega) (by have := lv_r c i (); change semLev _ = _ at this; rw [this]; omega)
theorem mayWait_bar (c : Dev nD) :
    (levAts L lv : sProp 𝕄) ⊢ MayWait (c : Thread nD τ) (.reg barS) () (owed c 24) :=
  mayWait_low c _ 24 (le_refl _) (by decide)

end Cert.Ring
end
end
-- ==== Proof.Ring.Split.lean ====
/-
# A buffer as its tiles

The result's buffer and the buffer of the partial products are sixteen tiles each (the latter also four row chunks, a
chunk four tiles), a landing buffer six. Holding the buffer is holding the tiles.
-/
module

public import proofs.«01_k».proof.Proof.Ring.Cells

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The names of a 2048×2048 buffer's tiles. -/
abbrev TIx : Type := Fin 2 × Fin 2 × Fin 4

abbrev tileAt (t : TIx) : Rect S2048x2048 := tileR t.1 t.2.1 t.2.2

theorem tile_disj (t t' : TIx) (h : t ≠ t') : Disjoint (tileAt t).set (tileAt t').set := by
  obtain ⟨d, p, r⟩ := t; obtain ⟨d', p', r'⟩ := t'
  by_cases hp : p = p'
  · refine Rect.unit_disjoint (s := S2048x2048) (0 : Fin 2) ?_
    show 512 * r.val + 256 * d.val + 256 ≤ 512 * r'.val + 256 * d'.val ∨ 512 * r'.val + 256 * d'.val + 256 ≤ 512 * r.val + 256 * d.val
    by_cases hr : r = r'
    · by_cases hd : d = d'
      · exact absurd (by rw [hp, hr, hd]) h
      · have := fun e => hd (Fin.ext e); omega
    · have := fun e => hr (Fin.ext e); omega
  · refine Rect.unit_disjoint (s := S2048x2048) (1 : Fin 2) ?_
    show 1024 * p.val + 1024 ≤ 1024 * p'.val ∨ 1024 * p'.val + 1024 ≤ 1024 * p.val
    have := fun e => hp (Fin.ext e); omega

/-- The tile an element lies in. -/
def tileOf (i : S2048x2048.Idx) : TIx :=
  (⟨(i (0 : Fin 2)).val / 256 % 2, Nat.mod_lt _ (by decide)⟩,
   ⟨(i (1 : Fin 2)).val / 1024, by have : (i (1 : Fin 2)).val < 2048 := (i (1 : Fin 2)).isLt; omega⟩,
   ⟨(i (0 : Fin 2)).val / 512, by have : (i (0 : Fin 2)).val < 2048 := (i (0 : Fin 2)).isLt; omega⟩)

theorem mem_tileOf (i : S2048x2048.Idx) : i ∈ (tileAt (tileOf i)).set := by
  rw [Rect.mem_set_unit]
  have h0 : (i (0 : Fin 2)).val < 2048 := (i (0 : Fin 2)).isLt
  have h1 : (i (1 : Fin 2)).val < 2048 := (i (1 : Fin 2)).isLt
  intro a
  match a with
  | ⟨0, _⟩ =>
    show 512 * ((i (0 : Fin 2)).val / 512) + 256 * ((i (0 : Fin 2)).val / 256 % 2) ≤ (i (0 : Fin 2)).val
      ∧ (i (0 : Fin 2)).val < 512 * ((i (0 : Fin 2)).val / 512) + 256 * ((i (0 : Fin 2)).val / 256 % 2) + 256
    omega
  | ⟨1, _⟩ =>
    show 1024 * ((i (1 : Fin 2)).val / 1024) ≤ (i (1 : Fin 2)).val ∧ (i (1 : Fin 2)).val < 1024 * ((i (1 : Fin 2)).val / 1024) + 1024
    omega

theorem tile_cov : (Finset.univ : Finset TIx).biUnion (fun t => (tileAt t).set) = Finset.univ :=
  Finset.eq_univ_iff_forall.mpr fun i => Finset.mem_biUnion.mpr ⟨tileOf i, Finset.mem_univ _, mem_tileOf i⟩

theorem chunk_disj (r r' : Fin 4) (h : r ≠ r') : Disjoint (chunkR r).set (chunkR r').set := by
  refine Rect.unit_disjoint (s := S2048x2048) (0 : Fin 2) ?_
  show 512 * r.val + 512 ≤ 512 * r'.val ∨ 512 * r'.val + 512 ≤ 512 * r.val
  have := fun e => h (Fin.ext e); omega

theorem chunk_cov : (Finset.univ : Finset (Fin 4)).biUnion (fun r => (chunkR r).set) = Finset.univ := by
  refine Finset.eq_univ_iff_forall.mpr fun i => Finset.mem_biUnion.mpr ⟨(tileOf i).2.2, Finset.mem_univ _, ?_⟩
  rw [Rect.mem_set_unit]
  have h0 : (i (0 : Fin 2)).val < 2048 := (i (0 : Fin 2)).isLt
  have h1 : (i (1 : Fin 2)).val < 2048 := (i (1 : Fin 2)).isLt
  intro a
  match a with
  | ⟨0, _⟩ =>
    show 512 * ((i (0 : Fin 2)).val / 512) ≤ (i (0 : Fin 2)).val ∧ (i (0 : Fin 2)).val < 512 * ((i (0 : Fin 2)).val / 512) + 512
    omega
  | ⟨1, _⟩ => exact ⟨Nat.zero_le _, by show (i (1 : Fin 2)).val < 0 + 2048; omega⟩

theorem sub_disj (t t' : Fin 2 × Fin 2) (h : t ≠ t') : Disjoint (subR t.1 t.2).set (subR t'.1 t'.2).set := by
  obtain ⟨d, p⟩ := t; obtain ⟨d', p'⟩ := t'
  by_cases hp : p = p'
  · refine Rect.unit_disjoint (s := S512x2048) (0 : Fin 2) ?_
    show 256 * d.val + 256 ≤ 256 * d'.val ∨ 256 * d'.val + 256 ≤ 256 * d.val
    by_cases hd : d = d'
    · exact absurd (by rw [hp, hd]) h
    · have := fun e => hd (Fin.ext e); omega
  · refine Rect.unit_disjoint (s := S512x2048) (1 : Fin 2) ?_
    show 1024 * p.val + 1024 ≤ 1024 * p'.val ∨ 1024 * p'.val + 1024 ≤ 1024 * p.val
    have := fun e => hp (Fin.ext e); omega

theorem sub_cov : (Finset.univ : Finset (Fin 2 × Fin 2)).biUnion (fun t => (subR t.1 t.2).set) = Finset.univ := by
  refine Finset.eq_univ_iff_forall.mpr fun i => ?_
  have h0 : (i (0 : Fin 2)).val < 512 := (i (0 : Fin 2)).isLt
  have h1 : (i (1 : Fin 2)).val < 2048 := (i (1 : Fin 2)).isLt
  refine Finset.mem_biUnion.mpr ⟨(⟨(i (0 : Fin 2)).val / 256, by omega⟩, ⟨(i (1 : Fin 2)).val / 1024, by omega⟩), Finset.mem_univ _, ?_⟩
  rw [Rect.mem_set_unit]
  intro a
  match a with
  | ⟨0, _⟩ =>
    show 256 * ((i (0 : Fin 2)).val / 256) ≤ (i (0 : Fin 2)).val ∧ (i (0 : Fin 2)).val < 256 * ((i (0 : Fin 2)).val / 256) + 256
    omega
  | ⟨1, _⟩ =>
    show 1024 * ((i (1 : Fin 2)).val / 1024) ≤ (i (1 : Fin 2)).val ∧ (i (1 : Fin 2)).val < 1024 * ((i (1 : Fin 2)).val / 1024) + 1024
    omega

theorem slot_disj (t t' : Fin 2 × Fin 3) (h : t ≠ t') : Disjoint (slotR t.1 t.2).set (slotR t'.1 t'.2).set := by
  obtain ⟨p, k⟩ := t; obtain ⟨p', k'⟩ := t'
  by_cases hp : p = p'
  · refine Rect.unit_disjoint (s := S2x3x256x1024) (1 : Fin 4) ?_
    show k.val + 1 ≤ k'.val ∨ k'.val + 1 ≤ k.val
    by_cases hk : k = k'
    · exact absurd (by rw [hp, hk]) h
    · have := fun e => hk (Fin.ext e); omega
  · refine Rect.unit_disjoint (s := S2x3x256x1024) (0 : Fin 4) ?_
    show p.val + 1 ≤ p'.val ∨ p'.val + 1 ≤ p.val
    have := fun e => hp (Fin.ext e); omega

theorem slot_cov : (Finset.univ : Finset (Fin 2 × Fin 3)).biUnion (fun t => (slotR t.1 t.2).set) = Finset.univ := by
  refine Finset.eq_univ_iff_forall.mpr fun i => ?_
  refine Finset.mem_biUnion.mpr ⟨(⟨(i (0 : Fin 4)).val, (i (0 : Fin 4)).isLt⟩, ⟨(i (1 : Fin 4)).val, (i (1 : Fin 4)).isLt⟩), Finset.mem_univ _, ?_⟩
  rw [Rect.mem_set_unit]
  have h2 : (i (2 : Fin 4)).val < 256 := (i (2 : Fin 4)).isLt
  have h3 : (i (3 : Fin 4)).val < 1024 := (i (3 : Fin 4)).isLt
  intro a
  match a with
  | ⟨0, _⟩ => exact ⟨le_refl _, Nat.lt_succ_self _⟩
  | ⟨1, _⟩ => exact ⟨le_refl _, Nat.lt_succ_self _⟩
  | ⟨2, _⟩ => exact ⟨Nat.zero_le _, by show (i (2 : Fin 4)).val < 0 + 256; omega⟩
  | ⟨3, _⟩ => exact ⟨Nat.zero_le _, by show (i (3 : Fin 4)).val < 0 + 1024; omega⟩

/-! ## Splitting and joining -/

/-- Slices that cover a memref disjointly, held with whatever contents, are the memref held so. -/
theorem ownE_of_rects (c : Dev nD) {s : Shape} (m : Memref sig .tc .vmem s .bf16) {T : Type} [Fintype T] [DecidableEq T]
    (r : T → Rect s) (hr : ∀ t a, (r t).stride a = 1) (hd : ∀ t t', t ≠ t' → Disjoint (r t).set (r t').set)
    (hcov : (Finset.univ : Finset T).biUnion (fun t => (r t).set) = Finset.univ) :
    bigSep Finset.univ (fun t => ownE c (m.slice (r t) (hr t))) ⊢ (ownE c m : sProp 𝕄) := by
  classical
  haveI : ∀ t, Nonempty (Vec F (r t).shape .bf16) := fun t => ⟨fun _ => (Elt.inhabited F .bf16).default⟩
  refine (bigSep_exists_pi Finset.univ fun t Y => own c (m.slice (r t) (hr t)) Y).trans ?_
  refine exists_elim fun Y => ?_
  have key : ∀ i : s.Idx, ∃ t, ∃ j, (r t).emb j = i := fun i => by
    obtain ⟨t, -, hx⟩ := Finset.mem_biUnion.mp (hcov.symm ▸ Finset.mem_univ i)
    rw [← Rect.map_emb_univ, Finset.mem_map] at hx
    obtain ⟨j, -, e⟩ := hx
    exact ⟨t, j, e⟩
  have hX : ∀ t j, (fun i => Y (key i).choose (key i).choose_spec.choose) ((r t).emb j) = Y t j := fun t j => by
    have gen : ∀ t' j', (r t').emb j' = (r t).emb j → Y t' j' = Y t j := fun t' j' e => by
      have ht : t' = t := by
        by_contra hne
        have h1 : (r t).emb j ∈ (r t').set := by rw [← e, ← Rect.map_emb_univ]; exact Finset.mem_map_of_mem _ (Finset.mem_univ _)
        have h2 : (r t).emb j ∈ (r t).set := by rw [← Rect.map_emb_univ]; exact Finset.mem_map_of_mem _ (Finset.mem_univ _)
        exact Finset.disjoint_left.mp (hd _ _ hne) h1 h2
      subst ht
      rw [(r t').emb.injective e]
    exact gen _ _ (key ((r t).emb j)).choose_spec.choose_spec
  have hb : (bigSep Finset.univ fun t => own c (m.slice (r t) (hr t)) (Y t) : sProp 𝕄)
      = bigSep Finset.univ fun t => own c (m.slice (r t) (hr t)) (fun j => (fun i => Y (key i).choose (key i).choose_spec.choose) ((r t).emb j)) :=
    bigSep_congr fun t _ => congrArg (own c (m.slice (r t) (hr t))) (funext (hX t)).symm
  rw [hb]
  refine (owns_of_rects (c : Thread nD τ) m fullShare r hr hd hcov (fun i => Y (key i).choose (key i).choose_spec.choose)).trans ?_
  unfold ownE
  exact exists_intro _

/-- A tile of a row chunk is the tile of the buffer. -/
theorem own_sub (c : Dev nD) (d p : Fin 2) (r : Fin 4) (X : Tile F) :
    (own c ((chP r).slice (subR d p) (fun _ => rfl)) X : sProp 𝕄) = own c (tP d p r) X := by
  have he : ∀ j : S256x1024.Idx, (chunkR r).emb ((subR d p).emb j) = (tileR d p r).emb j := fun j => by
    funext a; apply Fin.ext
    match a with
    | ⟨0, _⟩ => show 512 * r.val + 1 * (256 * d.val + 1 * (j (0 : Fin 2)).val) = 512 * r.val + 256 * d.val + 1 * (j (0 : Fin 2)).val; omega
    | ⟨1, _⟩ => show 0 + 1 * (1024 * p.val + 1 * (j (1 : Fin 2)).val) = 1024 * p.val + 1 * (j (1 : Fin 2)).val; omega
  have hs : ((chP r).slice (subR d p) (fun _ => rfl)).view.set = (tP d p r).view.set := by
    show Finset.univ.map _ = Finset.univ.map _
    congr 1
    ext1 j
    exact he j
  unfold own owns
  have h1 : ∀ f, ((chP r).slice (subR d p) (fun _ => rfl)).view.read (Elt F) f = (tP d p r).view.read (Elt F) f := fun f => by
    funext j; exact congrArg f (he j)
  refine congrArg _ (funext fun f => ?_)
  rw [h1, hs]

/-- A row chunk held is its four tiles held. -/
theorem own_chunk (c : Dev nD) (r : Fin 4) (X : Vec F S512x2048 .bf16) :
    (own c (chP r) X : sProp 𝕄) ⊢ iprop((own c (tP 0 0 r) (fun j => X ((subR 0 0).emb j)) ∗ own c (tP 0 1 r) (fun j => X ((subR 0 1).emb j)))
      ∗ (own c (tP 1 0 r) (fun j => X ((subR 1 0).emb j)) ∗ own c (tP 1 1 r) (fun j => X ((subR 1 1).emb j)))) := by
  refine (owns_rects (c : Thread nD τ) (chP r) fullShare (fun t : Fin 2 × Fin 2 => subR t.1 t.2) (fun _ _ => rfl) sub_disj sub_cov X).trans ?_
  rw [bigSep_univ_prod, bigSep_fin_two, bigSep_fin_two, bigSep_fin_two]
  rw [← own_sub c 0 0, ← own_sub c 0 1, ← own_sub c 1 0, ← own_sub c 1 1]
  exact entails_refl _

/-- The slot of a landing buffer, held as a tile and as the 4-d slice a load reads. -/
theorem own_slot (c : Dev nD) (d p : Fin 2) (k : Fin 3) (x : Tile F) :
    (own c (tC d p k) x : sProp 𝕄) = own c (tC4 d p k) (slot4 x) := by
  have hr : ∀ f : (tC4 d p k).view.ty.Contents (Elt F), (tC d p k).view.read (Elt F) f
      = fun j => (tC4 d p k).view.read (Elt F) f (Shape.reshapeEquiv (squeezes_S1x1x256x1024_S256x1024).numel_eq j) := fun f => rfl
  have hs : (tC d p k).view.set = (tC4 d p k).view.set := View.set_reshape _ _
  unfold own owns
  refine congrArg _ (funext fun f => ?_)
  have hp : ((tC d p k).view.read (Elt F) f = x) = ((tC4 d p k).view.read (Elt F) f = slot4 x) := propext
    ⟨fun h => by rw [← h, hr]; unfold slot4; funext j; dsimp only; rw [Shape.reshapeEquiv_reshapeEquiv, Shape.reshapeEquiv_self],
     fun h => by rw [hr, h]; unfold slot4; funext j; rw [Shape.reshapeEquiv_reshapeEquiv, Shape.reshapeEquiv_self]⟩
  rw [hp, hs]

theorem ownE_slot (c : Dev nD) (d p : Fin 2) (k : Fin 3) : (ownE c (tC d p k) : sProp 𝕄) = ownE c (tC4 d p k) := by
  unfold ownE
  refine BI.equiv_iff.mp ⟨?_, ?_⟩
  · show iprop(∃ X : Tile F, own c (tC d p k) X) ⊢ iprop(∃ X : Vec F S1x1x256x1024 .bf16, own c (tC4 d p k) X)
    iintro ⟨%X, H⟩; iexists slot4 X; rw [← own_slot]; iexact H
  · show iprop(∃ X : Vec F S1x1x256x1024 .bf16, own c (tC4 d p k) X) ⊢ iprop(∃ X : Tile F, own c (tC d p k) X)
    iintro ⟨%X, H⟩
    iexists (fun j => X (Shape.reshapeEquiv shapeCasts_S1x1x256x1024_S256x1024 j))
    rw [own_slot, show slot4 (fun j => X (Shape.reshapeEquiv shapeCasts_S1x1x256x1024_S256x1024 j)) = X from by
      unfold slot4; funext j; dsimp only; rw [Shape.reshapeEquiv_reshapeEquiv, Shape.reshapeEquiv_self]]
    iexact H

theorem ownE_intro (c : Dev nD) {s : Shape} (t : Memref sig .tc .vmem s .bf16) (X : Vec F s .bf16) :
    (own c t X : sProp 𝕄) ⊢ ownE c t := by unfold ownE; iintro H; iexists X; iexact H

/-- The result's buffer, split into tiles of whatever contents, -/
theorem split_out (c : Dev nD) : (ownE c oM : sProp 𝕄) ⊢ bigSep Finset.univ fun t : TIx => ownE c (tO t.1 t.2.1 t.2.2) := by
  have h : ∀ X : Vec F S2048x2048 .bf16, bigSep Finset.univ (fun t : TIx => own c (tO t.1 t.2.1 t.2.2) (fun j => X ((tileAt t).emb j))) ⊢ (bigSep Finset.univ fun t : TIx => ownE c (tO t.1 t.2.1 t.2.2) : sProp 𝕄) :=
    fun X => bigSep_mono fun t _ => ownE_intro c _ _
  refine exists_elim fun X => .trans ?_ (h X)
  exact owns_rects (c : Thread nD τ) oM fullShare tileAt (fun _ _ => rfl) tile_disj tile_cov X
/-- and joined from tiles that are one function's. -/
theorem join_out (c : Dev nD) (X : Vec F S2048x2048 .bf16) :
    bigSep Finset.univ (fun t : TIx => own c (tO t.1 t.2.1 t.2.2) (fun j => X ((tileAt t).emb j))) ⊢ (own c oM X : sProp 𝕄) :=
  owns_of_rects (c : Thread nD τ) oM fullShare tileAt (fun _ _ => rfl) tile_disj tile_cov X

/-- The partial products' buffer, split into row chunks, and joined from tiles. -/
theorem split_pbuf (c : Dev nD) : (ownE c pM : sProp 𝕄) ⊢ bigSep Finset.univ fun r : Fin 4 => ownE c (chP r) := by
  have h : ∀ X : Vec F S2048x2048 .bf16, bigSep Finset.univ (fun r : Fin 4 => own c (chP r) (fun j => X ((chunkR r).emb j))) ⊢ (bigSep Finset.univ fun r : Fin 4 => ownE c (chP r) : sProp 𝕄) :=
    fun X => bigSep_mono fun t _ => ownE_intro c _ _
  refine exists_elim fun X => .trans ?_ (h X)
  exact owns_rects (c : Thread nD τ) pM fullShare chunkR (fun _ _ => rfl) chunk_disj chunk_cov X
theorem join_pbuf (c : Dev nD) :
    bigSep Finset.univ (fun t : TIx => ownE c (tP t.1 t.2.1 t.2.2)) ⊢ (ownE c pM : sProp 𝕄) :=
  ownE_of_rects c pM tileAt (fun _ _ => rfl) tile_disj tile_cov

/-- A landing buffer, split into its slots and joined from them. -/
theorem split_land (c : Dev nD) (d : Fin 2) :
    (ownE c (cM d) : sProp 𝕄) ⊢ bigSep Finset.univ fun t : Fin 2 × Fin 3 => ownE c (tC d t.1 t.2) := by
  rw [bigSep_congr (fun t _ => ownE_slot c d t.1 t.2)]
  have h : ∀ X : Vec F S2x3x256x1024 .bf16, bigSep Finset.univ (fun t : Fin 2 × Fin 3 => own c (tC4 d t.1 t.2) (fun j => X ((slotR t.1 t.2).emb j))) ⊢ (bigSep Finset.univ fun t : Fin 2 × Fin 3 => ownE c (tC4 d t.1 t.2) : sProp 𝕄) :=
    fun X => bigSep_mono fun t _ => ownE_intro c _ _
  refine exists_elim fun X => .trans ?_ (h X)
  exact owns_rects (c : Thread nD τ) (cM d) fullShare (fun t : Fin 2 × Fin 3 => slotR t.1 t.2) (fun _ _ => rfl) slot_disj slot_cov X
theorem join_land (c : Dev nD) (d : Fin 2) :
    bigSep Finset.univ (fun t : Fin 2 × Fin 3 => ownE c (tC d t.1 t.2)) ⊢ (ownE c (cM d) : sProp 𝕄) := by
  rw [bigSep_congr (fun t _ => ownE_slot c d t.1 t.2)]
  exact ownE_of_rects c (cM d) (fun t : Fin 2 × Fin 3 => slotR t.1 t.2) (fun _ _ => rfl) slot_disj slot_cov

end Cert.Ring
end
end
-- ==== Proof.Ring.State.lean ====
/-
# Where a device stands

Each of the 24 copies of a device is in one of eight states; a state says what the device holds for that copy — the
tokens that pay for it, the tile it reads, the tile that has landed. Six counters say how far the program has come, and
from them every copy's state.
-/
module

public import proofs.«01_k».proof.Proof.Ring.Split

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S2048x1024 .bf16) (B : Dev nD → Vec F S1024x2048 .bf16)

/-! ## The records every device can read -/

/-- The names of a device's cells: its barrier, and its sender's (`false`) and receiver's (`true`) of each copy. -/
abbrev KIx : Type := Option (Bool × Fin 24)

def kcell (x : Dev nD × KIx) : GSem nD τ sig :=
  match x.2 with
  | none => barCell x.1
  | some (false, i) => sCell i x.1
  | some (true, i) => rCell i x.1

/-- All cells' invariants under the names `K`, that each is at round 0 at least, and the levels. -/
def recs (K : Dev nD × KIx → ℕ) : sProp 𝕄 :=
  iprop(((bigSep Finset.univ fun x : Dev nD × KIx => cellInv ER (ringRd A B) (K x) (kcell x))
    ∗ bigSep Finset.univ fun x : Dev nD × KIx => reached ER (kcell x) 0) ∗ levAts L lv)

instance recs_persistent (K : Dev nD × KIx → ℕ) : BI.Persistent (recs A B K) := by unfold recs; infer_instance

theorem recs_inv (K : Dev nD × KIx → ℕ) (x : Dev nD × KIx) : recs A B K ⊢ cellInv ER (ringRd A B) (K x) (kcell x) := by
  have h : (bigSep Finset.univ fun x : Dev nD × KIx => cellInv ER (ringRd A B) (K x) (kcell x) : sProp 𝕄)
      ⊢ cellInv ER (ringRd A B) (K x) (kcell x) := bigSep_elim (Finset.mem_univ x)
  unfold recs; iintro ⟨⟨H, -⟩, -⟩; iapply h; iexact H
theorem recs_reached (K : Dev nD × KIx → ℕ) (x : Dev nD × KIx) : recs A B K ⊢ reached ER (kcell x) 0 := by
  have h : (bigSep Finset.univ fun x : Dev nD × KIx => reached ER (kcell x) 0 : sProp 𝕄) ⊢ reached ER (kcell x) 0 :=
    bigSep_elim (Finset.mem_univ x)
  unfold recs; iintro ⟨⟨-, H⟩, -⟩; iapply h; iexact H
theorem recs_lev (K : Dev nD × KIx → ℕ) : recs A B K ⊢ levAts L lv := by
  unfold recs; iintro ⟨-, H⟩; iexact H

/-! ## One copy's state -/

inductive Status where
  | raw | ready | summed | primed | fly | half | got | pass
  deriving DecidableEq

/-- What a copy costs: the two duties it pays, the device's own positions in the two cells, the credit its receiver
    waits with, and the tile it writes. The last is the neighbour's and comes by the barrier. -/
def kit₀ (i : Fin 24) (c : Dev nD) : sProp 𝕄 :=
  iprop(dutyTok ER (sCell i c) 0 0 ∗ dutyTok ER (rCell i (nxt (kd i) c)) 0 0 ∗ atPos ER (sCell i c) 0 ∅ 0
    ∗ atPos ER (rCell i c) 0 ∅ 0 ∗ cred (tallyAt (rCell i c) () N))
def kit (i : Fin 24) (c : Dev nD) : sProp 𝕄 :=
  iprop(kit₀ i c ∗ ownE (nxt (kd i) c) (dstT i (nxt (kd i) c)))

/-- The first copies of the all-gather also keep the tile of the result that their sum will go to, -/
def home (i : Fin 24) (c : Dev nD) : sProp 𝕄 :=
  if 12 ≤ i.val ∧ i.val < 16 then ownE c (tO (kd i) (kp i) (pos (kd i) c 3)) else iprop(emp)
/-- and then the tile of the partial products that it came from. -/
def back (i : Fin 24) (c : Dev nD) : sProp 𝕄 :=
  if 12 ≤ i.val ∧ i.val < 16 then ownE c (tP (kd i) (kp i) (pos (kd i) c 3)) else iprop(emp)

def S (c : Dev nD) (i : Fin 24) : Status → sProp 𝕄
  | .raw => iprop(kit i c ∗ home i c)
  | .ready => iprop((kit i c ∗ home i c) ∗ own c (tP (kd i) (kp i) (pos (kd i) c (kk i))) (tileV A B (kd i) (kp i) (pos (kd i) c (kk i)) c))
  | .summed => iprop((kit i c ∗ home i c) ∗ own c (tP (kd i) (kp i) (pos (kd i) c 3)) (acc A B (kd i) (kp i) 3 c))
  | .primed => iprop(kit i c ∗ own c (srcT i c) (sval A B i c) ∗ back i c)
  | .fly => iprop((atPos ER (sCell i c) 0 ∅ 0 ∗ cred (tallyAt (sCell i c) () N)) ∗ (atPos ER (rCell i c) 0 ∅ 0 ∗ cred (tallyAt (rCell i c) () N)) ∗ back i c)
  | .half => iprop((semVal (sCell i c) 0 ∗ own c (srcT i c) (sval A B i c)) ∗ (atPos ER (rCell i c) 0 ∅ 0 ∗ cred (tallyAt (rCell i c) () N)) ∗ back i c)
  | .got => iprop((semVal (sCell i c) 0 ∗ own c (srcT i c) (sval A B i c)) ∗ (semVal (rCell i c) 0 ∗ own c (dstT i c) (rval A B i c)) ∗ back i c)
  | .pass => iprop((semVal (sCell i c) 0 ∗ own c (srcT i c) (sval A B i c)) ∗ semVal (rCell i c) 0 ∗ back i c)

/-! The same, one state at a time. -/
theorem S_raw (c : Dev nD) (i : Fin 24) : S A B c i .raw =
    iprop(kit i c ∗ home i c) := rfl
theorem S_ready (c : Dev nD) (i : Fin 24) : S A B c i .ready =
    iprop((kit i c ∗ home i c) ∗ own c (tP (kd i) (kp i) (pos (kd i) c (kk i))) (tileV A B (kd i) (kp i) (pos (kd i) c (kk i)) c)) := rfl
theorem S_summed (c : Dev nD) (i : Fin 24) : S A B c i .summed =
    iprop((kit i c ∗ home i c) ∗ own c (tP (kd i) (kp i) (pos (kd i) c 3)) (acc A B (kd i) (kp i) 3 c)) := rfl
theorem S_primed (c : Dev nD) (i : Fin 24) : S A B c i .primed =
    iprop(kit i c ∗ own c (srcT i c) (sval A B i c) ∗ back i c) := rfl
theorem S_fly (c : Dev nD) (i : Fin 24) : S A B c i .fly =
    iprop((atPos ER (sCell i c) 0 ∅ 0 ∗ cred (tallyAt (sCell i c) () N)) ∗ (atPos ER (rCell i c) 0 ∅ 0 ∗ cred (tallyAt (rCell i c) () N)) ∗ back i c) := rfl
theorem S_half (c : Dev nD) (i : Fin 24) : S A B c i .half =
    iprop((semVal (sCell i c) 0 ∗ own c (srcT i c) (sval A B i c)) ∗ (atPos ER (rCell i c) 0 ∅ 0 ∗ cred (tallyAt (rCell i c) () N)) ∗ back i c) := rfl
theorem S_got (c : Dev nD) (i : Fin 24) : S A B c i .got =
    iprop((semVal (sCell i c) 0 ∗ own c (srcT i c) (sval A B i c)) ∗ (semVal (rCell i c) 0 ∗ own c (dstT i c) (rval A B i c)) ∗ back i c) := rfl
theorem S_pass (c : Dev nD) (i : Fin 24) : S A B c i .pass =
    iprop((semVal (sCell i c) 0 ∗ own c (srcT i c) (sval A B i c)) ∗ semVal (rCell i c) 0 ∗ back i c) := rfl

/-- All copies' states. -/
def St (c : Dev nD) (s : Fin 24 → Status) : sProp 𝕄 := bigSep Finset.univ fun i => S A B c i (s i)

/-- One copy's state taken out, and any state put back. -/
theorem St_take (c : Dev nD) (s : Fin 24 → Status) (i : Fin 24) :
    St A B c s ⊢ iprop(S A B c i (s i) ∗ ∀ x, S A B c i x -∗ St A B c (Function.update s i x)) := by
  have h : ∀ x, (St A B c (Function.update s i x) : sProp 𝕄)
      = iprop(S A B c i x ∗ bigSep (Finset.univ.erase i) fun j => S A B c j (s j)) := fun x => by
    unfold St
    rw [BI.bigSep_erase (Finset.mem_univ i), Function.update_self,
      bigSep_congr (Φ := fun j => S A B c j (Function.update s i x j)) (Ψ := fun j => S A B c j (s j)) (fun j hj => by
        rw [Function.update_of_ne (Finset.ne_of_mem_erase hj)])]
    rfl
  have h0 := h (s i)
  rw [Function.update_eq_self] at h0
  rw [h0]
  refine sep_mono_right ?_
  iintro H %x Hx
  rw [h x]
  isplitl [Hx]; · iexact Hx
  iexact H

theorem St_at (c : Dev nD) (s : Fin 24 → Status) {i : Fin 24} {y : Status} (h : s i = y) :
    St A B c s ⊢ iprop(S A B c i y ∗ ∀ x, S A B c i x -∗ St A B c (Function.update s i x)) := by
  rw [← h]; exact St_take A B c s i

/-! Numbers of copies. -/
theorem up_late : ∀ i : Fin 24, 12 ≤ i.val → i.val < 20 → ¬(12 ≤ (up i).val ∧ (up i).val < 16) := by decide
theorem up_ne : ∀ i : Fin 24, up i ≠ i := by decide
theorem kk_fin : ∀ i : Fin 24, 12 ≤ i.val → i.val < 16 → kk i = 3 := by decide

/-! ## The counters -/

/-- Row chunks computed, sums stored, results stored, copies started, waited for at the sender's, at the receiver's. -/
structure Cnt where
  cp : ℕ
  ac : ℕ
  ge : ℕ
  sent : ℕ
  sw : ℕ
  rw : ℕ

/-- How many row chunks must have been computed for copy `i`'s own tile to be there: the device's own is the first,
    then come those one, three and two further. -/
def need (i : Fin 24) : ℕ := if kk i = 2 then 4 else if kk i = 1 + 2 * (1 - (kd i).val) then 2 else 3

def stat (n : Cnt) (i : Fin 24) : Status :=
  if i.val < n.rw then (if 12 ≤ i.val ∧ i.val < 20 then .pass else .got)
  else if i.val < n.sw then .half
  else if i.val < n.sent then .fly
  else if i.val < 4 then (if 1 ≤ n.cp then .primed else .raw)
  else if i.val < 12 then (if i.val < n.ac + 4 then .primed else if need i ≤ n.cp then .ready else .raw)
  else if i.val < 16 then (if i.val < n.ge + 12 then .primed else if i.val < n.ac + 4 then .summed else if need i ≤ n.cp then .ready else .raw)
  else if i.val < n.rw + 4 then .primed else .raw

/-- All copies' states, and what is still owed: the receivers' credit of the copies not started. -/
def R (c : Dev nD) (n : Cnt) : sProp 𝕄 :=
  iprop(St A B c (stat n) ∗ ∃ W, owes (c : Thread nD τ) (owed c (24 - n.sent)) W)

theorem R_intro (c : Dev nD) (n : Cnt) (s : Fin 24 → Status) (hs : s = stat n) (m : ℕ) (hm : m = 24 - n.sent) (W : Waits sig Unit) :
    iprop(St A B c s ∗ owes (c : Thread nD τ) (owed c m) W) ⊢ R A B c n := by
  subst hs; subst hm; unfold R
  iintro ⟨H, HO⟩
  isplitl [H]; · iexact H
  iexists W; iexact HO

end Cert.Ring
end
end
-- ==== Proof.Ring.Ops.lean ====
/-
# One operation of the kernel

A rule for each kind of operation the kernel does: a load or store of a tile, a copy started, a wait at a sender's or a
receiver's semaphore. Each says which copies' states it moves on; the counters' change is checked by computation.
-/
module

public import proofs.«01_k».proof.Proof.Ring.State

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of the device, run from here to `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of what is held -/

section Mem
variable (c : Dev nD) {α : Type} {s : Shape}

/-- A load of a slice that is held. -/
theorem own_load (m : Memref sig .tc .vmem s .bf16) {off off' sz : Fin s.rank → ℕ} {h : ∀ a, off a + sz a ≤ s.size a}
    {h' : ∀ a, off' a + sz a ≤ s.size a} (e : off = off') {hl : m.view.LoadsAt (Rect.unit off sz h).toLoadRect}
    (X : Vec F ⟨s.rank, sz⟩ .bf16) {k : (Vec F ⟨s.rank, sz⟩ .bf16) → Prog (TpuEff nD τ sig (Elt F) Λ₀ .tc) α} {Q : α → sProp 𝕄} :
    own c (m.slice (Rect.unit off' sz h') (fun _ => rfl)) X
      ⊢ iprop((own c (m.slice (Rect.unit off' sz h') (fun _ => rfl)) X -∗ WP c (k X) Q)
        -∗ WP c (.op (.load m (Rect.unit off sz h).toLoadRect hl) k) Q) := by
  subst e
  unfold own owns
  iintro ⟨%f, %hf, H⟩ Hk
  iapply (wp_load_rect 𝒱₀ (c : Thread nD τ) none Set.univ (m := m) (r := Rect.unit off sz h) (S := (m.access (Rect.unit off sz h)).set) (q := fullShare)
    (f := f) (hl := hl) (k := k) (Finset.Subset.refl _)) $$ H
  iintro H
  rw [show (m.access (Rect.unit off sz h)).read (Elt F) f = X from hf]
  iapply Hk
  iexists f
  isplitr; · ipureintro; exact hf
  iexact H

/-- A load of what lies within a memref that is held. -/
theorem own_load_in (m : Memref sig .tc .vmem s .bf16) {r : Rect s} {hl : m.view.LoadsAt r.toLoadRect}
    (X : Vec F s .bf16) {k : (Vec F r.shape .bf16) → Prog (TpuEff nD τ sig (Elt F) Λ₀ .tc) α} {Q : α → sProp 𝕄} :
    own c m X ⊢ iprop((own c m X -∗ WP c (k (fun j => X (r.emb j))) Q) -∗ WP c (.op (.load m r.toLoadRect hl) k) Q) := by
  unfold own owns
  iintro ⟨%f, %hf, H⟩ Hk
  iapply (wp_load_rect 𝒱₀ (c : Thread nD τ) none Set.univ (m := m) (r := r) (S := m.view.set) (q := fullShare)
    (f := f) (hl := hl) (k := k) (View.set_slice_subset _ _)) $$ H
  iintro H
  rw [show (m.access r).read (Elt F) f = fun j => X (r.emb j) from by subst hf; rfl]
  iapply Hk
  iexists f
  isplitr; · ipureintro; exact hf
  iexact H

/-- A store to a slice that is held. -/
theorem own_store (m : Memref sig .tc .vmem s .bf16) {off off' sz : Fin s.rank → ℕ} {h : ∀ a, off a + sz a ≤ s.size a}
    {h' : ∀ a, off' a + sz a ≤ s.size a} (e : off = off') {w : Vec F ⟨s.rank, sz⟩ .bf16}
    {hx : (m.access (Rect.unit off sz h)).Stores Finset.univ}
    {hm : (Finset.univ : Finset (Rect.unit off sz h).shape.Idx) = Finset.univ ∨ ∀ a, (Rect.unit off sz h).stride a = 1}
    {k : PUnit → Prog (TpuEff nD τ sig (Elt F) Λ₀ .tc) α} {Q : α → sProp 𝕄} :
    ownE c (m.slice (Rect.unit off' sz h') (fun _ => rfl))
      ⊢ iprop((own c (m.slice (Rect.unit off' sz h') (fun _ => rfl)) w -∗ WP c (k ⟨⟩) Q)
        -∗ WP c (.op (.store m (Rect.unit off sz h) w Finset.univ hx hm) k) Q) := by
  subst e
  unfold ownE own owns
  iintro ⟨%X, %f, %hf, H⟩ Hk
  iapply (wp_store 𝒱₀ (c : Thread nD τ) none Set.univ (m := m) (r := Rect.unit off sz h) (w := w) (Mk := Finset.univ)
    (S := (m.access (Rect.unit off sz h)).set) (f := f) (hx := hx) (hm := hm) (k := k) (Finset.Subset.refl _)) $$ H
  iintro H
  iapply Hk
  iexists _
  isplitr
  rotate_left
  · iexact H
  · ipureintro; exact View.read_write_univ _ _

end Mem

variable (A : Dev nD → Vec F S2048x1024 .bf16) (B : Dev nD → Vec F S1024x2048 .bf16)
variable (K : Dev nD × KIx → ℕ) (c : Dev nD) {α : Type}

/-! ## The copies -/

theorem srcT_credit (i : Fin 24) (c : Dev nD) : (srcT i c).view.dmaCredit = N := by unfold srcT; split <;> rfl
theorem dstT_credit (i : Fin 24) (c : Dev nD) : (dstT i c).view.dmaCredit = N := by unfold dstT; split <;> rfl

/-- The start of a copy, from what it needs: the tile here, the neighbour's tile, and the tokens. -/
theorem wp_start (i : Fin 24) {c' : Dev nD} (hc : c' = nxt (kd i) c) {src dst : Memref sig .tc .vmem S256x1024 .bf16}
    (hs : src = srcT i c) (hd : dst = dstT i c') (hn : dst.view.dmaCredit = N) (X Y : Tile F) (hX : X = sval A B i c)
    {hsc : (dst : Memref sig (Dev.tc c' : Thread nD τ).2.kind .vmem S256x1024 .bf16).view.ref.isScScratch = false}
    {hsrc : src.view.WordExact} {hdst : dst.view.WordExact}
    {hsem : DmaTarget.Typed .vmem (.dma (rS i)) (.remote (Dev.tc c' : Thread nD τ) dst (.dma (sS i)) hsc)} (W : Waits sig Unit)
    {k : PUnit → Prog (TpuEff nD τ sig (Elt F) Λ₀ .tc) α} {Q : α → sProp 𝕄} :
    iprop(cellInv ER (ringRd A B) (K (c, some (false, i))) (sCell i c) ∗ cellInv ER (ringRd A B) (K (c', some (true, i))) (rCell i c')
        ∗ own c src X ∗ own c' dst Y ∗ owes (c : Thread nD τ) (owed c (24 - i.val)) W
        ∗ dutyTok ER (sCell i c) 0 0 ∗ reached ER (sCell i c) 0 ∗ dutyTok ER (rCell i c') 0 0 ∗ reached ER (rCell i c') 0)
      ⊢ iprop(((cred (tallyAt (sCell i c) () N) ∗ owes (c : Thread nD τ) (owed c (24 - (i.val + 1))) W) -∗ WP c (k ⟨⟩) Q)
        -∗ WP c (.op (.enqueueDma src (.remote (Dev.tc c' : Thread nD τ) dst (.dma (sS i)) hsc) (.dma (rS i)) hsrc hdst hsem) k) Q) := by
  unfold own owns
  iintro ⟨H1, H2, ⟨%fs, %hfs, Hs⟩, ⟨%fd, %hfd, Hd⟩, H5, H6, H7, H8, H9⟩
  iapply (Rounds.wp_send_pointsTo 𝒱₀ ER (ringRd A B) (c : Thread nD τ) none (κ₁ := K (c, some (false, i)))
    (κ₂ := K (c', some (true, i))) (r₁ := 0) (r₂ := 0) (d₁ := 0) (d₂ := 0) (fs := fs) (fd := fd) (q := fullShare)
    (hsc := hsc) (hsem := hsem) (hsrc := hsrc) (hdst := hdst)
    (by rw [duties_s]; exact Finset.mem_singleton_self _) (by rw [duties_r]; exact Finset.mem_singleton_self _)
    () () N hn rfl rfl (owed c (24 - (i.val + 1))) (show owed c (24 - i.val) = owed c (24 - (i.val + 1)) + tallyAt (rCell i c') () N by rw [hc]; exact owed_step i c) (W := W)
    (by rw [pay_s, ← hs, ← hX]; unfold own owns; iintro H; iexists fs; isplitr
        · ipureintro; exact hfs
        · iexact H)
    (by rw [pay_r, ← hd, hc, rval_nxt, ← hX]; unfold own owns; iintro H; iexists _; isplitr
        rotate_left
        · iexact H
        · ipureintro; rw [View.read_write_univ]; exact hfs)) $$ [H1 H2 Hs Hd H5 H6 H7 H8 H9]
  isplitl [H1]; · iexact H1
  isplitl [H2]; · iexact H2
  isplitl [Hs]; · iexact Hs
  isplitl [Hd]; · iexact Hd
  isplitl [H5]; · iexact H5
  isplitl [H6]; · iexact H6
  isplitl [H7]; · iexact H7
  isplitl [H8] <;> iassumption

theorem wp_copy (i : Fin 24) {n n' : Cnt} {c' : Dev nD} (hc : c' = nxt (kd i) c) {src dst : Memref sig .tc .vmem S256x1024 .bf16}
    (hs : src = srcT i c) (hd : dst = dstT i c') {ss rs : DmaSem sig} (hss : ss = sS i) (hrs : rs = rS i)
    (h : stat n i = .primed) (h' : Function.update (stat n) i .fly = stat n') (hn : n.sent = i.val) (hn' : n'.sent = i.val + 1)
    {hsc : (dst : Memref sig (Dev.tc c' : Thread nD τ).2.kind .vmem S256x1024 .bf16).view.ref.isScScratch = false}
    {hsrc : src.view.WordExact} {hdst : dst.view.WordExact}
    {hsem : DmaTarget.Typed .vmem (.dma rs) (.remote (Dev.tc c' : Thread nD τ) dst (.dma ss) hsc)}
    {k : PUnit → Prog (TpuEff nD τ sig (Elt F) Λ₀ .tc) α} {Q : α → sProp 𝕄} :
    iprop(recs A B K ∗ R A B c n)
      ⊢ iprop((R A B c n' -∗ WP c (k ⟨⟩) Q)
        -∗ WP c (.op (.enqueueDma src (.remote (Dev.tc c' : Thread nD τ) dst (.dma ss) hsc) (.dma rs) hsrc hdst hsem) k) Q) := by
  have hN : dst.view.dmaCredit = N := by rw [hd]
  subst hss; subst hrs
  unfold R
  iintro ⟨#Hr, HSt, ⟨%W, HO⟩⟩ Hk
  ihave H := (St_at A B c (stat n) h) $$ HSt
  icases H with ⟨HS, Hput⟩
  ihave HS := (Entails.of_eq (S_primed A B c i)) $$ HS
  ihave HS := (Entails.of_eq (show _ = iprop(((dutyTok ER (sCell i c) 0 0 ∗ dutyTok ER (rCell i c') 0 0 ∗ atPos ER (sCell i c) 0 ∅ 0
    ∗ atPos ER (rCell i c) 0 ∅ 0 ∗ cred (tallyAt (rCell i c) () N)) ∗ ∃ Y : Tile F, own c' dst Y) ∗ own c src (sval A B i c) ∗ back i c) by
      subst hs; subst hd; subst hc; rfl)) $$ HS
  icases HS with ⟨⟨⟨HtS, HtR, HaS, HaR, HcR⟩, ⟨%Y, Hdst⟩⟩, Hsrc, Hback⟩
  iapply (wp_start A B K c i hc hs hd hN (sval A B i c) Y rfl W) $$ [Hsrc Hdst HO HtS HtR]
  · isplitr; · iapply (recs_inv A B K (c, some (false, i))); iexact Hr
    isplitr; · iapply (recs_inv A B K (c', some (true, i))); iexact Hr
    isplitl [Hsrc]; · iexact Hsrc
    isplitl [Hdst]; · iexact Hdst
    isplitl [HO]; · rw [← hn]; iexact HO
    isplitl [HtS]; · iexact HtS
    isplitr; · iapply (recs_reached A B K (c, some (false, i))); iexact Hr
    isplitl [HtR]; · iexact HtR
    iapply (recs_reached A B K (c', some (true, i))); iexact Hr
  iintro ⟨HcS, HO⟩
  iapply Hk
  rw [← h']
  ihave H := Hput $$ %Status.fly [HaS HcS HaR HcR Hback]
  · rw [S_fly]
    isplitl [HaS HcS]
    · isplitl [HaS] <;> iassumption
    isplitl [HaR HcR]
    · isplitl [HaR] <;> iassumption
    iexact Hback
  isplitl [H]; · iexact H
  iexists W; rw [hn']; iexact HO

/-- The wait for copy `i` at its sender: its tile is back. -/
theorem wp_swait (i : Fin 24) {n n' : Cnt} {src dst : Memref sig .tc .vmem S256x1024 .bf16} (hd : dst.view.dmaCredit = N)
    {ss : DmaSem sig} (hss : ss = sS i)
    (h : stat n i = .fly) (h' : Function.update (stat n) i .half = stat n') (hn : n'.sent = n.sent)
    {hsrc : src.view.WordExact} {hdst : dst.view.WordExact} {k : PUnit → Prog (TpuEff nD τ sig (Elt F) Λ₀ .tc) α} {Q : α → sProp 𝕄} :
    iprop(recs A B K ∗ R A B c n) ⊢ iprop((R A B c n' -∗ WP c (k ⟨⟩) Q) -∗ WP c (.op (.waitDma2 ss src dst hsrc hdst) k) Q) := by
  subst hss
  unfold R
  iintro ⟨#Hr, HSt, ⟨%W, HO⟩⟩ Hk
  ihave H := (St_at A B c (stat n) h) $$ HSt
  icases H with ⟨HS, Hput⟩
  ihave HS := (Entails.of_eq (S_fly A B c i)) $$ HS
  icases HS with ⟨⟨HaS, HcS⟩, Hrest⟩
  iapply (Rounds.wp_wait_rest_token 𝒱₀ ER (ringRd A B) (c : Thread nD τ) none (κ := K (c, some (false, i)))
      (wpE_waitDma2_eq 𝒱₀ (c : Thread nD τ) none Set.univ) (Set.mem_univ _) () (O := owed c (24 - n.sent)) (W := W) (R := 0) (m := 0) (T := ∅)
      (show 0 + dst.view.dmaCredit = (ringRd A B).expect (sCell i c) 0 by rw [Nat.zero_add, expect_s])) $$ [HcS HO HaS]
  · isplitr; · iapply (recs_inv A B K (c, some (false, i))); iexact Hr
    isplitl [HcS]; · rw [hd]; iexact HcS
    isplitl [HO]; · iexact HO
    isplitr
    · iapply (mayWait_s c i (24 - n.sent) (Nat.sub_le _ _)); iapply (recs_lev A B K); iexact Hr
    iexact HaS
  iintro ⟨HO, HaS, -, Hpay⟩
  ihave Hsrc := (Entails.of_eq (rest_s A B c i)) $$ Hpay
  imod (Rounds.cell_close ER (ringRd A B) (Set.mem_univ (K (c, some (false, i)))) (fun h => h) (R := 0 + 1) (duties_later A B (sCell i c))) $$ [HaS] with Hz
  · isplitr; · iapply (recs_inv A B K (c, some (false, i))); iexact Hr
    iexact HaS
  iapply Hk
  rw [← h', hn]
  ihave H := Hput $$ %Status.half [Hz Hsrc Hrest]
  · rw [S_half]
    isplitl [Hz Hsrc]
    · isplitl [Hz] <;> iassumption
    iexact Hrest
  isplitl [H]; · iexact H
  iexists _; iexact HO

/-- The wait for copy `i` at its receiver, up to the state it leaves: the landed tile comes. -/
theorem wp_rwait_raw (i : Fin 24) {n : Cnt} {src dst : Memref sig .tc .vmem S256x1024 .bf16} (hd : dst.view.dmaCredit = N)
    {rs : DmaSem sig} (hrs : rs = rS i) (h : stat n i = .half) (hn : 24 - n.sent + i.val < 24)
    {hsrc : src.view.WordExact} {hdst : dst.view.WordExact} {k : PUnit → Prog (TpuEff nD τ sig (Elt F) Λ₀ .tc) α} {Q : α → sProp 𝕄} :
    iprop(recs A B K ∗ R A B c n)
      ⊢ iprop((((semVal (rCell i c) 0 ∗ own c (dstT i c) (rval A B i c)) ∗ ((semVal (sCell i c) 0 ∗ own c (srcT i c) (sval A B i c)) ∗ back i c)
            ∗ (∀ x, S A B c i x -∗ St A B c (Function.update (stat n) i x)) ∗ ∃ W, owes (c : Thread nD τ) (owed c (24 - n.sent)) W)
          -∗ WP c (k ⟨⟩) Q) -∗ WP c (.op (.waitDma2 rs src dst hsrc hdst) k) Q) := by
  subst hrs
  unfold R
  iintro ⟨#Hr, HSt, ⟨%W, HO⟩⟩ Hk
  ihave H := (St_at A B c (stat n) h) $$ HSt
  icases H with ⟨HS, Hput⟩
  ihave HS := (Entails.of_eq (S_half A B c i)) $$ HS
  icases HS with ⟨Hsnd, ⟨HaR, HcR⟩, Hback⟩
  iapply (Rounds.wp_wait_rest_token 𝒱₀ ER (ringRd A B) (c : Thread nD τ) none (κ := K (c, some (true, i)))
      (wpE_waitDma2_eq 𝒱₀ (c : Thread nD τ) none Set.univ) (Set.mem_univ _) () (O := owed c (24 - n.sent)) (W := W) (R := 0) (m := 0) (T := ∅)
      (show 0 + dst.view.dmaCredit = (ringRd A B).expect (rCell i c) 0 by rw [Nat.zero_add, expect_r])) $$ [HcR HO HaR]
  · isplitr; · iapply (recs_inv A B K (c, some (true, i))); iexact Hr
    isplitl [HcR]; · rw [hd]; iexact HcR
    isplitl [HO]; · iexact HO
    isplitr
    · iapply (mayWait_r c i (24 - n.sent) hn); iapply (recs_lev A B K); iexact Hr
    iexact HaR
  iintro ⟨HO, HaR, -, Hpay⟩
  ihave Hdst := (Entails.of_eq (rest_r A B c i)) $$ Hpay
  imod (Rounds.cell_close ER (ringRd A B) (Set.mem_univ (K (c, some (true, i)))) (fun h => h) (R := 0 + 1) (duties_later A B (rCell i c))) $$ [HaR] with Hz
  · isplitr; · iapply (recs_inv A B K (c, some (true, i))); iexact Hr
    iexact HaR
  iapply Hk
  isplitl [Hz Hdst]
  · isplitl [Hz] <;> iassumption
  isplitl [Hsnd Hback]
  · isplitl [Hsnd] <;> iassumption
  isplitl [Hput]; · iexact Hput
  iexists _; iexact HO

/-- The reduce-scatter's copies, and the last ones of the all-gather, keep the landed tile; -/
theorem wp_rwait (i : Fin 24) {n n' : Cnt} {src dst : Memref sig .tc .vmem S256x1024 .bf16} (hd : dst.view.dmaCredit = N)
    {rs : DmaSem sig} (hrs : rs = rS i) (h : stat n i = .half) (hn : 24 - n.sent + i.val < 24)
    (h' : Function.update (stat n) i .got = stat n') (hn' : n'.sent = n.sent)
    {hsrc : src.view.WordExact} {hdst : dst.view.WordExact} {k : PUnit → Prog (TpuEff nD τ sig (Elt F) Λ₀ .tc) α} {Q : α → sProp 𝕄} :
    iprop(recs A B K ∗ R A B c n) ⊢ iprop((R A B c n' -∗ WP c (k ⟨⟩) Q) -∗ WP c (.op (.waitDma2 rs src dst hsrc hdst) k) Q) := by
  refine (wp_rwait_raw A B K c i hd hrs h hn).trans (wand_mono_left ?_)
  iintro Hk ⟨Hr, ⟨Hs, Hb⟩, Hput, HO⟩
  iapply Hk
  unfold R
  rw [← h', hn']
  ihave H := Hput $$ %Status.got [Hr Hs Hb]
  · rw [S_got]
    isplitl [Hs]; · iexact Hs
    isplitl [Hr] <;> iassumption
  isplitl [H] <;> iassumption

/-- the other ones of the all-gather hand it on to the next copy, which reads it. -/
theorem wp_rwait_pass (i : Fin 24) {n n' : Cnt} {src dst : Memref sig .tc .vmem S256x1024 .bf16} (hd : dst.view.dmaCredit = N)
    {rs : DmaSem sig} (hrs : rs = rS i) (hi : 12 ≤ i.val) (hi' : i.val < 20) (h : stat n i = .half) (hn : 24 - n.sent + i.val < 24)
    (hu : stat n (up i) = .raw) (h' : Function.update (Function.update (stat n) i .pass) (up i) .primed = stat n') (hn' : n'.sent = n.sent)
    {hsrc : src.view.WordExact} {hdst : dst.view.WordExact} {k : PUnit → Prog (TpuEff nD τ sig (Elt F) Λ₀ .tc) α} {Q : α → sProp 𝕄} :
    iprop(recs A B K ∗ R A B c n) ⊢ iprop((R A B c n' -∗ WP c (k ⟨⟩) Q) -∗ WP c (.op (.waitDma2 rs src dst hsrc hdst) k) Q) := by
  refine (wp_rwait_raw A B K c i hd hrs h hn).trans (wand_mono_left ?_)
  have hb : (back (up i) c : sProp 𝕄) = iprop(emp) := if_neg (up_late i hi hi')
  have hh : (home (up i) c : sProp 𝕄) = iprop(emp) := if_neg (up_late i hi hi')
  have hne : up i ≠ i := up_ne i
  have hu' : Function.update (stat n) i .pass (up i) = .raw := by rw [Function.update_of_ne hne]; exact hu
  iintro Hk ⟨⟨Hz, Hd⟩, ⟨Hs, Hb⟩, Hput, HO⟩
  iapply Hk
  unfold R
  rw [← h', hn']
  ihave H := Hput $$ %Status.pass [Hz Hs Hb]
  · rw [S_pass]
    isplitl [Hs]; · iexact Hs
    isplitl [Hz] <;> iassumption
  ihave H := (St_take A B c (Function.update (stat n) i .pass) (up i)) $$ H
  icases H with ⟨HS, Hput⟩
  ihave HS := (Entails.of_eq (show S A B c (up i) (Function.update (stat n) i .pass (up i)) = iprop(kit (up i) c ∗ home (up i) c) by
    rw [hu', S_raw])) $$ HS
  icases HS with ⟨Hkit, -⟩
  ihave H := Hput $$ %Status.primed [Hkit Hd]
  · rw [S_primed]
    rw [hb, ← dst_up i c hi hi', ← rval_up A B i c hi hi']
    isplitl [Hkit]; · iexact Hkit
    isplitl [Hd]; · iexact Hd
    iempintro
  isplitl [H] <;> iassumption

/-! ## The sums -/

/-- The load of a tile of the partial products, for the copy that will carry its sum. -/
theorem wp_ld_part (i : Fin 24) {n : Cnt} (h : stat n i = .ready) {off : Fin 2 → ℕ}
    (e : off = tileOff (kd i) (kp i) (pos (kd i) c (kk i))) {hb : ∀ a, off a + S256x1024.size a ≤ S2048x2048.size a}
    {hl : pM.view.LoadsAt (Rect.unit (s := S2048x2048) off S256x1024.size hb).toLoadRect}
    {k : Tile F → Prog (TpuEff nD τ sig (Elt F) Λ₀ .tc) α} {Q : α → sProp 𝕄} :
    R A B c n ⊢ iprop((R A B c n -∗ WP c (k (tileV A B (kd i) (kp i) (pos (kd i) c (kk i)) c)) Q)
      -∗ WP c (.op (.load pM (Rect.unit (s := S2048x2048) off S256x1024.size hb).toLoadRect hl) k) Q) := by
  unfold R
  iintro ⟨HSt, HO⟩ Hk
  ihave H := (St_at A B c (stat n) h) $$ HSt
  icases H with ⟨HS, Hput⟩
  ihave HS := (Entails.of_eq (S_ready A B c i)) $$ HS
  icases HS with ⟨Hkit, Ht⟩
  iapply (own_load c pM e (tileV A B (kd i) (kp i) (pos (kd i) c (kk i)) c) (h' := tileOff_inb _ _ _)) $$ Ht
  iintro Ht
  iapply Hk
  ihave H := Hput $$ %Status.ready [Hkit Ht]
  · rw [S_ready]; isplitl [Hkit] <;> iassumption
  rw [← h, Function.update_eq_self]
  isplitl [H] <;> iassumption

/-- The load of what a reduce-scatter copy has brought. -/
theorem wp_ld_land (i : Fin 24) (hi : i.val < 12) {n : Cnt} (h : stat n i = .got) {m : Memref sig .tc .vmem S2x3x256x1024 .bf16} (hm : m = cM (kd i))
    {off : Fin 4 → ℕ} (e : off = slotOff (kp i) (hop i)) {hb : ∀ a, off a + S1x1x256x1024.size a ≤ S2x3x256x1024.size a}
    {hl : m.view.LoadsAt (Rect.unit (s := S2x3x256x1024) off S1x1x256x1024.size hb).toLoadRect}
    {k : Vec F S1x1x256x1024 .bf16 → Prog (TpuEff nD τ sig (Elt F) Λ₀ .tc) α} {Q : α → sProp 𝕄} :
    R A B c n ⊢ iprop((R A B c n -∗ WP c (k (slot4 (rval A B i c))) Q)
      -∗ WP c (.op (.load m (Rect.unit (s := S2x3x256x1024) off S1x1x256x1024.size hb).toLoadRect hl) k) Q) := by
  subst hm
  unfold R
  iintro ⟨HSt, HO⟩ Hk
  ihave H := (St_at A B c (stat n) h) $$ HSt
  icases H with ⟨HS, Hput⟩
  ihave HS := (Entails.of_eq (S_got A B c i)) $$ HS
  icases HS with ⟨Hs, ⟨Hz, Ht⟩, Hb⟩
  ihave Ht := (Entails.of_eq (show own c (dstT i c) (rval A B i c) = own c (tC4 (kd i) (kp i) (hop i)) (slot4 (rval A B i c)) by
    rw [← own_slot]; unfold dstT; rw [if_pos hi])) $$ Ht
  iapply (own_load c (cM (kd i)) e (slot4 (rval A B i c)) (h' := slotOff_inb _ _)) $$ Ht
  iintro Ht
  iapply Hk
  ihave Ht := (Entails.of_eq (show own c (tC4 (kd i) (kp i) (hop i)) (slot4 (rval A B i c)) = own c (dstT i c) (rval A B i c) by
    rw [← own_slot]; unfold dstT; rw [if_pos hi])) $$ Ht
  ihave H := Hput $$ %Status.got [Hs Hz Ht Hb]
  · rw [S_got]; isplitl [Hs]; · iexact Hs
    isplitl [Hz Ht]
    · isplitl [Hz] <;> iassumption
    iexact Hb
  rw [← h, Function.update_eq_self]
  isplitl [H] <;> iassumption

/-- The store of a sum: in the reduce-scatter it is what the next copy carries, -/
theorem wp_st_acc (i : Fin 24) (hi : 4 ≤ i.val) (hi' : i.val < 12) {n n' : Cnt} (h : stat n i = .ready)
    (h' : Function.update (stat n) i .primed = stat n') (hn' : n'.sent = n.sent) {off : Fin 2 → ℕ}
    (e : off = tileOff (kd i) (kp i) (pos (kd i) c (kk i))) {hb : ∀ a, off a + S256x1024.size a ≤ S2048x2048.size a}
    {w : Tile F} (hw : w = acc A B (kd i) (kp i) (kk i) c)
    {hx : (pM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄} :
    R A B c n ⊢ iprop((R A B c n' -∗ WP c (k ⟨⟩) Q)
      -∗ WP c (.op (.store pM (Rect.unit (s := S2048x2048) off S256x1024.size hb) w Finset.univ hx hm) k) Q) := by
  have hbk : (back i c : sProp 𝕄) = iprop(emp) := if_neg (by omega)
  unfold R
  iintro ⟨HSt, HO⟩ Hk
  ihave H := (St_at A B c (stat n) h) $$ HSt
  icases H with ⟨HS, Hput⟩
  ihave HS := (Entails.of_eq (S_ready A B c i)) $$ HS
  icases HS with ⟨⟨Hkit, -⟩, Ht⟩
  ihave Ht := (ownE_intro c _ _) $$ Ht
  iapply (own_store c pM e (w := w) (h' := tileOff_inb _ _ _)) $$ Ht
  iintro Ht
  iapply Hk
  ihave H := Hput $$ %Status.primed [Hkit Ht]
  · rw [S_primed]
    rw [hbk]
    isplitl [Hkit]; · iexact Hkit
    isplitl [Ht]
    · unfold srcT sval; rw [if_pos hi', if_pos hi', ← hw]; iexact Ht
    iempintro
  rw [h', hn']
  isplitl [H] <;> iassumption

/-- and after the last hop it is the whole sum. -/
theorem wp_st_sum (i : Fin 24) (hi : 12 ≤ i.val) (hi' : i.val < 16) {n n' : Cnt} (h : stat n i = .ready)
    (h' : Function.update (stat n) i .summed = stat n') (hn' : n'.sent = n.sent) {off : Fin 2 → ℕ}
    (e : off = tileOff (kd i) (kp i) (pos (kd i) c (kk i))) {hb : ∀ a, off a + S256x1024.size a ≤ S2048x2048.size a}
    {w : Tile F} (hw : w = acc A B (kd i) (kp i) (kk i) c)
    {hx : (pM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄} :
    R A B c n ⊢ iprop((R A B c n' -∗ WP c (k ⟨⟩) Q)
      -∗ WP c (.op (.store pM (Rect.unit (s := S2048x2048) off S256x1024.size hb) w Finset.univ hx hm) k) Q) := by
  have hk : kk i = 3 := kk_fin i hi hi'
  unfold R
  iintro ⟨HSt, HO⟩ Hk
  ihave H := (St_at A B c (stat n) h) $$ HSt
  icases H with ⟨HS, Hput⟩
  ihave HS := (Entails.of_eq (S_ready A B c i)) $$ HS
  icases HS with ⟨Hkit, Ht⟩
  ihave Ht := (ownE_intro c _ _) $$ Ht
  iapply (own_store c pM e (w := w) (h' := tileOff_inb _ _ _)) $$ Ht
  iintro Ht
  iapply Hk
  ihave H := Hput $$ %Status.summed [Hkit Ht]
  · rw [S_summed]
    isplitl [Hkit]; · iexact Hkit
    rw [hw, hk]; iexact Ht
  rw [h', hn']
  isplitl [H] <;> iassumption

/-! ## The activation -/

theorem wp_ld_sum (i : Fin 24) (hi : 12 ≤ i.val) (hi' : i.val < 16) {n : Cnt} (h : stat n i = .summed) {off : Fin 2 → ℕ}
    (e : off = tileOff (kd i) (kp i) (pos (kd i) c 3)) {hb : ∀ a, off a + S256x1024.size a ≤ S2048x2048.size a}
    {hl : pM.view.LoadsAt (Rect.unit (s := S2048x2048) off S256x1024.size hb).toLoadRect}
    {k : Tile F → Prog (TpuEff nD τ sig (Elt F) Λ₀ .tc) α} {Q : α → sProp 𝕄} :
    R A B c n ⊢ iprop((R A B c n -∗ WP c (k (acc A B (kd i) (kp i) 3 c)) Q)
      -∗ WP c (.op (.load pM (Rect.unit (s := S2048x2048) off S256x1024.size hb).toLoadRect hl) k) Q) := by
  unfold R
  iintro ⟨HSt, HO⟩ Hk
  ihave H := (St_at A B c (stat n) h) $$ HSt
  icases H with ⟨HS, Hput⟩
  ihave HS := (Entails.of_eq (S_summed A B c i)) $$ HS
  icases HS with ⟨Hkit, Ht⟩
  iapply (own_load c pM e (acc A B (kd i) (kp i) 3 c) (h' := tileOff_inb _ _ _)) $$ Ht
  iintro Ht
  iapply Hk
  ihave H := Hput $$ %Status.summed [Hkit Ht]
  · rw [S_summed]; isplitl [Hkit] <;> iassumption
  rw [← h, Function.update_eq_self]
  isplitl [H] <;> iassumption

/-- The load before a store of the result: what it reads is not used. -/
theorem wp_ld_home (i : Fin 24) (hi : 12 ≤ i.val) (hi' : i.val < 16) {n : Cnt} (h : stat n i = .summed) {off : Fin 2 → ℕ}
    (e : off = tileOff (kd i) (kp i) (pos (kd i) c 3)) {hb : ∀ a, off a + S256x1024.size a ≤ S2048x2048.size a}
    {hl : oM.view.LoadsAt (Rect.unit (s := S2048x2048) off S256x1024.size hb).toLoadRect}
    {k : Tile F → Prog (TpuEff nD τ sig (Elt F) Λ₀ .tc) α} {Q : α → sProp 𝕄} :
    R A B c n ⊢ iprop((∀ x, R A B c n -∗ WP c (k x) Q)
      -∗ WP c (.op (.load oM (Rect.unit (s := S2048x2048) off S256x1024.size hb).toLoadRect hl) k) Q) := by
  have hh : (home i c : sProp 𝕄) = ownE c (tO (kd i) (kp i) (pos (kd i) c 3)) := if_pos ⟨hi, hi'⟩
  unfold R
  iintro ⟨HSt, HO⟩ Hk
  ihave H := (St_at A B c (stat n) h) $$ HSt
  icases H with ⟨HS, Hput⟩
  ihave HS := (Entails.of_eq ((S_summed A B c i).trans (by rw [hh]))) $$ HS
  icases HS with ⟨⟨Hkit, Ht⟩, Hs⟩
  ihave Ht := (Entails.of_eq (show ownE c (tO (kd i) (kp i) (pos (kd i) c 3)) = iprop(∃ X : Tile F, own c (tO (kd i) (kp i) (pos (kd i) c 3)) X) from rfl)) $$ Ht
  icases Ht with ⟨%X, Ht⟩
  iapply (own_load c oM e X (h' := tileOff_inb _ _ _)) $$ Ht
  iintro Ht
  iapply Hk $$ %X
  ihave H := Hput $$ %Status.summed [Hkit Ht Hs]
  · rw [S_summed]; rw [hh]
    isplitl [Hkit Ht]
    · isplitl [Hkit]; · iexact Hkit
      iapply (ownE_intro c _ X); iexact Ht
    iexact Hs
  rw [← h, Function.update_eq_self]
  isplitl [H] <;> iassumption

/-- The store of a finished tile of the result. -/
theorem wp_st_out (i : Fin 24) (hi : 12 ≤ i.val) (hi' : i.val < 16) {n n' : Cnt} (h : stat n i = .summed)
    (h' : Function.update (stat n) i .primed = stat n') (hn' : n'.sent = n.sent) {off : Fin 2 → ℕ}
    (e : off = tileOff (kd i) (kp i) (pos (kd i) c 3)) {hb : ∀ a, off a + S256x1024.size a ≤ S2048x2048.size a}
    {w : Tile F} (hw : w = k0_pay18 (acc A B (kd i) (kp i) 3 c))
    {hx : (oM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄} :
    R A B c n ⊢ iprop((R A B c n' -∗ WP c (k ⟨⟩) Q)
      -∗ WP c (.op (.store oM (Rect.unit (s := S2048x2048) off S256x1024.size hb) w Finset.univ hx hm) k) Q) := by
  have hh : (home i c : sProp 𝕄) = ownE c (tO (kd i) (kp i) (pos (kd i) c 3)) := if_pos ⟨hi, hi'⟩
  have hbk : (back i c : sProp 𝕄) = ownE c (tP (kd i) (kp i) (pos (kd i) c 3)) := if_pos ⟨hi, hi'⟩
  have hk : kk i = 3 := kk_fin i hi hi'
  unfold R
  iintro ⟨HSt, HO⟩ Hk
  ihave H := (St_at A B c (stat n) h) $$ HSt
  icases H with ⟨HS, Hput⟩
  ihave HS := (Entails.of_eq ((S_summed A B c i).trans (by rw [hh]))) $$ HS
  icases HS with ⟨⟨Hkit, Ht⟩, Hs⟩
  iapply (own_store c oM e (w := w) (h' := tileOff_inb _ _ _)) $$ Ht
  iintro Ht
  iapply Hk
  ihave H := Hput $$ %Status.primed [Hkit Ht Hs]
  · rw [S_primed]; rw [hbk]
    isplitl [Hkit]; · iexact Hkit
    isplitl [Ht]
    · rw [sval_fin A B i c hi hi', ← hw]; unfold srcT; rw [if_neg (by omega), hk]; iexact Ht
    iapply (ownE_intro c _ _); iexact Hs
  rw [h', hn']
  isplitl [H] <;> iassumption

end Cert.Ring
end
end
-- ==== Proof.Ring.Run.lean ====
/-
# Stepping through the program

`Run P n p Q`: device `c` with its copies at the counters `n` and `P` besides runs `p` to `Q`. Each operation is a rule
from what comes after it; the two groups of loads and stores that recur — a sum of two tiles, a row chunk of the
products — have one rule each.
-/
module

public import proofs.«01_k».proof.Proof.Ring.Ops

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S2048x1024 .bf16) (B : Dev nD → Vec F S1024x2048 .bf16)
variable (K : Dev nD × KIx → ℕ)

/-- The records, the copies at the counters `n`, and `P`. -/
def At (c : Dev nD) (P : sProp 𝕄) (n : Cnt) : sProp 𝕄 := iprop((recs A B K ∗ R A B c n) ∗ P)

def Run {α : Type} (c : Dev nD) (P : sProp 𝕄) (n : Cnt) (p : Prog (TpuEff nD τ sig (Elt F) Λ₀ .tc) α) (Q : α → sProp 𝕄) : Prop :=
  At A B K c P n ⊢ WP c p Q

section
variable {A B K} {c : Dev nD} {α : Type}

theorem Run.ret {P : sProp 𝕄} {n : Cnt} {x : α} {Q : α → sProp 𝕄} (h : At A B K c P n ⊢ Q x) : Run A B K c P n (.ret x) Q := by
  unfold Run WP
  rw [wp_ret]
  iintro H; imodintro; iapply h; iexact H

theorem Run.bind {P : sProp 𝕄} {β : Type} {n : Cnt} {p : Prog (TpuEff nD τ sig (Elt F) Λ₀ .tc) β} {k : β → Prog (TpuEff nD τ sig (Elt F) Λ₀ .tc) α}
    {Q : α → sProp 𝕄} (h : Run A B K c P n p (fun x => WP c (k x) Q)) : Run A B K c P n (p >>= k) Q := by
  unfold Run WP at *
  rw [wp_bind]; exact h

/-- An operation that reads the records. -/
theorem Run.step {P : sProp 𝕄} {n n' : Cnt} {X Y : sProp 𝕄} (h : iprop(recs A B K ∗ R A B c n) ⊢ iprop((R A B c n' -∗ X) -∗ Y))
    (hX : At A B K c P n' ⊢ X) : At A B K c P n ⊢ Y := by
  unfold At at *
  iintro ⟨⟨#Hr, HR⟩, HP⟩
  iapply h $$ [HR] [HP]
  · isplitr; · iexact Hr
    iexact HR
  iintro HR
  iapply hX
  isplitl [HR]
  · isplitr; · iexact Hr
    iexact HR
  iexact HP

/-- An operation that doesn't. -/
theorem Run.step' {n n' : Cnt} {X Y : sProp 𝕄} (h : R A B c n ⊢ iprop((R A B c n' -∗ X) -∗ Y))
    (hX : At A B K c P n' ⊢ X) : At A B K c P n ⊢ Y :=
  Run.step (A := A) (B := B) (K := K) (c := c) (by iintro ⟨-, H⟩; iapply h; iexact H) hX

theorem Run.copy {P : sProp 𝕄} (i : Fin 24) {n n' : Cnt} {c' : Dev nD} (hc : c' = nxt (kd i) c) {src dst : Memref sig .tc .vmem S256x1024 .bf16}
    (hs : src = srcT i c) (hd : dst = dstT i c') {ss rs : DmaSem sig}
    {hsc : (dst : Memref sig (Dev.tc c' : Thread nD τ).2.kind .vmem S256x1024 .bf16).view.ref.isScScratch = false}
    {hsrc : src.view.WordExact} {hdst : dst.view.WordExact}
    {hsem : DmaTarget.Typed .vmem (.dma rs) (.remote (Dev.tc c' : Thread nD τ) dst (.dma ss) hsc)}
    {k : PUnit → Prog (TpuEff nD τ sig (Elt F) Λ₀ .tc) α} {Q : α → sProp 𝕄}
    (hk : Run A B K c P n' (k ⟨⟩) Q)
    (hn' : n' = ⟨n.cp, n.ac, n.ge, n.sent + 1, n.sw, n.rw⟩ := by rfl) (hss : ss = sS i := by rfl) (hrs : rs = rS i := by rfl)
    (h : stat n i = .primed := by decide) (h' : Function.update (stat n) i .fly = stat ⟨n.cp, n.ac, n.ge, n.sent + 1, n.sw, n.rw⟩ := by decide)
    (hn : n.sent = i.val := by decide) :
    Run A B K c P n (.op (.enqueueDma src (.remote (Dev.tc c' : Thread nD τ) dst (.dma ss) hsc) (.dma rs) hsrc hdst hsem) k) Q := by
  subst hn'
  exact Run.step (wp_copy A B K c i hc hs hd hss hrs h h' hn (congrArg (· + 1) hn)) hk

/-- The start of a reduce-scatter copy, -/
theorem Run.copyP {P : sProp 𝕄} (i : Fin 24) {n n' : Cnt} {c' : Dev nD} (hc : c' = nxt (kd i) c) {off : Fin 2 → ℕ}
    (e : off = tileOff (kd i) (kp i) (pos (kd i) c (kk i))) {hb : ∀ a, off a + S256x1024.size a ≤ S2048x2048.size a}
    {hst : ∀ a, (Rect.unit (s := S2048x2048) off S256x1024.size hb).stride a = 1}
    {dst : Memref sig .tc .vmem S256x1024 .bf16} {ss rs : DmaSem sig}
    {hsc : (dst : Memref sig (Dev.tc c' : Thread nD τ).2.kind .vmem S256x1024 .bf16).view.ref.isScScratch = false}
    {hsrc : (pM.slice (Rect.unit (s := S2048x2048) off S256x1024.size hb) hst).view.WordExact} {hdst : dst.view.WordExact}
    {hsem : DmaTarget.Typed .vmem (.dma rs) (.remote (Dev.tc c' : Thread nD τ) dst (.dma ss) hsc)}
    {k : PUnit → Prog (TpuEff nD τ sig (Elt F) Λ₀ .tc) α} {Q : α → sProp 𝕄}
    (hk : Run A B K c P n' (k ⟨⟩) Q)
    (hi : i.val < 12 := by decide) (hd : dst = tC (kd i) (kp i) (hop i) := by rfl)
    (hn' : n' = ⟨n.cp, n.ac, n.ge, n.sent + 1, n.sw, n.rw⟩ := by rfl) (hss : ss = sS i := by rfl) (hrs : rs = rS i := by rfl)
    (h : stat n i = .primed := by decide) (h' : Function.update (stat n) i .fly = stat ⟨n.cp, n.ac, n.ge, n.sent + 1, n.sw, n.rw⟩ := by decide)
    (hn : n.sent = i.val := by decide) :
    Run A B K c P n (.op (.enqueueDma (pM.slice (Rect.unit (s := S2048x2048) off S256x1024.size hb) hst)
      (.remote (Dev.tc c' : Thread nD τ) dst (.dma ss) hsc) (.dma rs) hsrc hdst hsem) k) Q := by
  subst e
  exact Run.copy i hc (by unfold srcT; rw [if_pos hi]) (by unfold dstT; rw [if_pos hi]; exact hd) hk hn' hss hrs h h' hn

/-- and of one of the all-gather: the same tile of the result here and there. -/
theorem Run.copyO {P : sProp 𝕄} (i : Fin 24) {n n' : Cnt} {c' : Dev nD} (hc : c' = nxt (kd i) c) {off : Fin 2 → ℕ}
    (e : off = tileOff (kd i) (kp i) (pos (kd i) c (kk i))) {hb hb' : ∀ a, off a + S256x1024.size a ≤ S2048x2048.size a}
    {hst : ∀ a, (Rect.unit (s := S2048x2048) off S256x1024.size hb).stride a = 1}
    {hst' : ∀ a, (Rect.unit (s := S2048x2048) off S256x1024.size hb').stride a = 1} {ss rs : DmaSem sig}
    {hsc : (oM.slice (Rect.unit (s := S2048x2048) off S256x1024.size hb') hst' : Memref sig (Dev.tc c' : Thread nD τ).2.kind .vmem S256x1024 .bf16).view.ref.isScScratch = false}
    {hsrc : (oM.slice (Rect.unit (s := S2048x2048) off S256x1024.size hb) hst).view.WordExact}
    {hdst : (oM.slice (Rect.unit (s := S2048x2048) off S256x1024.size hb') hst').view.WordExact}
    {hsem : DmaTarget.Typed .vmem (.dma rs) (.remote (Dev.tc c' : Thread nD τ) (oM.slice (Rect.unit (s := S2048x2048) off S256x1024.size hb') hst') (.dma ss) hsc)}
    {k : PUnit → Prog (TpuEff nD τ sig (Elt F) Λ₀ .tc) α} {Q : α → sProp 𝕄}
    (hk : Run A B K c P n' (k ⟨⟩) Q) (hi : ¬ i.val < 12 := by decide)
    (hn' : n' = ⟨n.cp, n.ac, n.ge, n.sent + 1, n.sw, n.rw⟩ := by rfl) (hss : ss = sS i := by rfl) (hrs : rs = rS i := by rfl)
    (h : stat n i = .primed := by decide) (h' : Function.update (stat n) i .fly = stat ⟨n.cp, n.ac, n.ge, n.sent + 1, n.sw, n.rw⟩ := by decide)
    (hn : n.sent = i.val := by decide) :
    Run A B K c P n (.op (.enqueueDma (oM.slice (Rect.unit (s := S2048x2048) off S256x1024.size hb) hst)
      (.remote (Dev.tc c' : Thread nD τ) (oM.slice (Rect.unit (s := S2048x2048) off S256x1024.size hb') hst') (.dma ss) hsc) (.dma rs) hsrc hdst hsem) k) Q := by
  subst e; subst hc
  exact Run.copy i rfl (by unfold srcT; rw [if_neg hi]) (by unfold dstT; rw [if_neg hi]; rw [pos_nxt]) hk hn' hss hrs h h' hn

theorem Run.swait {P : sProp 𝕄} (i : Fin 24) {n n' : Cnt} {src dst : Memref sig .tc .vmem S256x1024 .bf16} {ss : DmaSem sig}
    {hsrc : src.view.WordExact} {hdst : dst.view.WordExact} {k : PUnit → Prog (TpuEff nD τ sig (Elt F) Λ₀ .tc) α} {Q : α → sProp 𝕄}
    (hk : Run A B K c P n' (k ⟨⟩) Q)
    (hn' : n' = ⟨n.cp, n.ac, n.ge, n.sent, n.sw + 1, n.rw⟩ := by rfl) (hd : dst.view.dmaCredit = N := by rfl) (hss : ss = sS i := by rfl)
    (h : stat n i = .fly := by decide) (h' : Function.update (stat n) i .half = stat ⟨n.cp, n.ac, n.ge, n.sent, n.sw + 1, n.rw⟩ := by decide) :
    Run A B K c P n (.op (.waitDma2 ss src dst hsrc hdst) k) Q := by
  subst hn'
  exact Run.step (wp_swait A B K c i hd hss h h' rfl) hk

theorem Run.rwait {P : sProp 𝕄} (i : Fin 24) {n n' : Cnt} {src dst : Memref sig .tc .vmem S256x1024 .bf16} {rs : DmaSem sig}
    {hsrc : src.view.WordExact} {hdst : dst.view.WordExact} {k : PUnit → Prog (TpuEff nD τ sig (Elt F) Λ₀ .tc) α} {Q : α → sProp 𝕄}
    (hk : Run A B K c P n' (k ⟨⟩) Q)
    (hn' : n' = ⟨n.cp, n.ac, n.ge, n.sent, n.sw, n.rw + 1⟩ := by rfl) (hd : dst.view.dmaCredit = N := by rfl) (hrs : rs = rS i := by rfl)
    (h : stat n i = .half := by decide) (hn : 24 - n.sent + i.val < 24 := by decide)
    (h' : Function.update (stat n) i .got = stat ⟨n.cp, n.ac, n.ge, n.sent, n.sw, n.rw + 1⟩ := by decide) :
    Run A B K c P n (.op (.waitDma2 rs src dst hsrc hdst) k) Q := by
  subst hn'
  exact Run.step (wp_rwait A B K c i hd hrs h hn h' rfl) hk

/-- The wait for a copy of the all-gather whose tile the next copy hands on. -/
theorem Run.rwaitPass {P : sProp 𝕄} (i : Fin 24) {n n' : Cnt} {src dst : Memref sig .tc .vmem S256x1024 .bf16} {rs : DmaSem sig}
    {hsrc : src.view.WordExact} {hdst : dst.view.WordExact} {k : PUnit → Prog (TpuEff nD τ sig (Elt F) Λ₀ .tc) α} {Q : α → sProp 𝕄}
    (hk : Run A B K c P n' (k ⟨⟩) Q)
    (hn' : n' = ⟨n.cp, n.ac, n.ge, n.sent, n.sw, n.rw + 1⟩ := by rfl) (hd : dst.view.dmaCredit = N := by rfl) (hrs : rs = rS i := by rfl)
    (hi : 12 ≤ i.val := by decide) (hi' : i.val < 20 := by decide)
    (h : stat n i = .half := by decide) (hn : 24 - n.sent + i.val < 24 := by decide) (hu : stat n (up i) = .raw := by decide)
    (h' : Function.update (Function.update (stat n) i .pass) (up i) .primed = stat ⟨n.cp, n.ac, n.ge, n.sent, n.sw, n.rw + 1⟩ := by decide) :
    Run A B K c P n (.op (.waitDma2 rs src dst hsrc hdst) k) Q := by
  subst hn'
  exact Run.step (wp_rwait_pass A B K c i hd hrs hi hi' h hn hu h' rfl) hk

/-! ## Sums -/

theorem Run.ldPart {P : sProp 𝕄} (i : Fin 24) {n : Cnt} {off : Fin 2 → ℕ}
    (e : off = tileOff (kd i) (kp i) (pos (kd i) c (kk i))) {hb : ∀ a, off a + S256x1024.size a ≤ S2048x2048.size a}
    {hl : pM.view.LoadsAt (Rect.unit (s := S2048x2048) off S256x1024.size hb).toLoadRect}
    {k : Tile F → Prog (TpuEff nD τ sig (Elt F) Λ₀ .tc) α} {Q : α → sProp 𝕄}
    (hk : Run A B K c P n (k (tileV A B (kd i) (kp i) (pos (kd i) c (kk i)) c)) Q) (h : stat n i = .ready := by decide) :
    Run A B K c P n (.op (.load pM (Rect.unit (s := S2048x2048) off S256x1024.size hb).toLoadRect hl) k) Q :=
  Run.step' (wp_ld_part A B c i h e) hk

theorem Run.ldLand {P : sProp 𝕄} (i : Fin 24) {n : Cnt} {m : Memref sig .tc .vmem S2x3x256x1024 .bf16}
    {off : Fin 4 → ℕ} {hb : ∀ a, off a + S1x1x256x1024.size a ≤ S2x3x256x1024.size a}
    {hl : m.view.LoadsAt (Rect.unit (s := S2x3x256x1024) off S1x1x256x1024.size hb).toLoadRect}
    {k : Vec F S1x1x256x1024 .bf16 → Prog (TpuEff nD τ sig (Elt F) Λ₀ .tc) α} {Q : α → sProp 𝕄}
    (hk : Run A B K c P n (k (slot4 (rval A B i c))) Q) (hi : i.val < 12 := by decide) (h : stat n i = .got := by decide)
    (hm : m = cM (kd i) := by rfl) (e : off = slotOff (kp i) (hop i) := by rfl) :
    Run A B K c P n (.op (.load m (Rect.unit (s := S2x3x256x1024) off S1x1x256x1024.size hb).toLoadRect hl) k) Q :=
  Run.step' (wp_ld_land A B c i hi h hm e) hk

/-- The store of a sum: what copy `i` carries, or a whole sum. -/
theorem Run.stSum {P : sProp 𝕄} (i : Fin 24) {n n' : Cnt} {off : Fin 2 → ℕ}
    (e : off = tileOff (kd i) (kp i) (pos (kd i) c (kk i))) {hb : ∀ a, off a + S256x1024.size a ≤ S2048x2048.size a}
    {w : Tile F} (hw : w = acc A B (kd i) (kp i) (kk i) c)
    {hx : (pM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄}
    (hk : Run A B K c P n' (k ⟨⟩) Q) (hn' : n' = ⟨n.cp, n.ac + 1, n.ge, n.sent, n.sw, n.rw⟩ := by rfl)
    (hi : 4 ≤ i.val ∧ i.val < 16 := by decide) (h : stat n i = .ready := by decide)
    (h' : Function.update (stat n) i (if i.val < 12 then .primed else .summed) = stat ⟨n.cp, n.ac + 1, n.ge, n.sent, n.sw, n.rw⟩ := by decide) :
    Run A B K c P n (.op (.store pM (Rect.unit (s := S2048x2048) off S256x1024.size hb) w Finset.univ hx hm) k) Q := by
  subst hn'
  by_cases hl : i.val < 12
  · rw [if_pos hl] at h'
    exact Run.step' (wp_st_acc A B c i hi.1 hl h h' rfl e hw) hk
  · rw [if_neg hl] at h'
    exact Run.step' (wp_st_sum A B c i (by omega) hi.2 h h' rfl e hw) hk

theorem acc_up (i : Fin 24) (hi : i.val < 12) :
    accOp (tileV A B (kd (up i)) (kp (up i)) (pos (kd (up i)) c (kk (up i))) c) (rval A B i c)
      = acc A B (kd (up i)) (kp (up i)) (kk (up i)) c := by
  rw [kd_up, kp_up, kk_up i (by omega)]; exact acc_step A B i c hi

/-- The sum after reduce-scatter copy `i` has landed. -/
theorem Run.sum {P : sProp 𝕄} (i : Fin 24) {n n' : Cnt} {off : Fin 2 → ℕ}
    (e : off = tileOff (kd (up i)) (kp (up i)) (pos (kd (up i)) c (kk (up i)))) {hb : ∀ a, off a + S256x1024.size a ≤ S2048x2048.size a}
    {hl hl' : pM.view.LoadsAt (Rect.unit (s := S2048x2048) off S256x1024.size hb).toLoadRect}
    {m : Memref sig .tc .vmem S2x3x256x1024 .bf16} {off4 : Fin 4 → ℕ} {hb4 : ∀ a, off4 a + S1x1x256x1024.size a ≤ S2x3x256x1024.size a}
    {hl4 : m.view.LoadsAt (Rect.unit (s := S2x3x256x1024) off4 S1x1x256x1024.size hb4).toLoadRect}
    {f : Tile F → Vec F S1x1x256x1024 .bf16 → Tile F}
    {hx : (pM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄}
    (hk : Run A B K c P n' (k ⟨⟩) Q) (hn' : n' = ⟨n.cp, n.ac + 1, n.ge, n.sent, n.sw, n.rw⟩ := by rfl)
    (hf : f = k0_pay6 := by rfl) (hi : i.val < 12 := by decide) (hu : 4 ≤ (up i).val ∧ (up i).val < 16 := by decide)
    (h : stat n i = .got := by decide) (hr : stat n (up i) = .ready := by decide)
    (hcm : m = cM (kd i) := by rfl) (e4 : off4 = slotOff (kp i) (hop i) := by rfl)
    (h' : Function.update (stat n) (up i) (if (up i).val < 12 then .primed else .summed) = stat ⟨n.cp, n.ac + 1, n.ge, n.sent, n.sw, n.rw⟩ := by decide) :
    Run A B K c P n (.op (.load pM (Rect.unit (s := S2048x2048) off S256x1024.size hb).toLoadRect hl) fun x =>
      .op (.load m (Rect.unit (s := S2x3x256x1024) off4 S1x1x256x1024.size hb4).toLoadRect hl4) fun y =>
      .op (.load pM (Rect.unit (s := S2048x2048) off S256x1024.size hb).toLoadRect hl') fun _ =>
      .op (.store pM (Rect.unit (s := S2048x2048) off S256x1024.size hb) (f x y) Finset.univ hx hm) k) Q := by
  subst hf
  refine Run.ldPart (up i) e ?_ hr
  refine Run.ldLand i ?_ hi h hcm e4
  refine Run.ldPart (up i) e ?_ hr
  exact Run.stSum (up i) e (acc_up i hi) hk hn' hu hr h'

/-! ## The activation -/

theorem Run.ldSum {P : sProp 𝕄} (i : Fin 24) {n : Cnt} {off : Fin 2 → ℕ}
    (e : off = tileOff (kd i) (kp i) (pos (kd i) c 3)) {hb : ∀ a, off a + S256x1024.size a ≤ S2048x2048.size a}
    {hl : pM.view.LoadsAt (Rect.unit (s := S2048x2048) off S256x1024.size hb).toLoadRect}
    {k : Tile F → Prog (TpuEff nD τ sig (Elt F) Λ₀ .tc) α} {Q : α → sProp 𝕄}
    (hk : Run A B K c P n (k (acc A B (kd i) (kp i) 3 c)) Q)
    (hi : 12 ≤ i.val := by decide) (hi' : i.val < 16 := by decide) (h : stat n i = .summed := by decide) :
    Run A B K c P n (.op (.load pM (Rect.unit (s := S2048x2048) off S256x1024.size hb).toLoadRect hl) k) Q :=
  Run.step' (wp_ld_sum A B c i hi hi' h e) hk

theorem Run.ldHome {P : sProp 𝕄} (i : Fin 24) {n : Cnt} {off : Fin 2 → ℕ}
    (e : off = tileOff (kd i) (kp i) (pos (kd i) c 3)) {hb : ∀ a, off a + S256x1024.size a ≤ S2048x2048.size a}
    {hl : oM.view.LoadsAt (Rect.unit (s := S2048x2048) off S256x1024.size hb).toLoadRect}
    {k : Tile F → Prog (TpuEff nD τ sig (Elt F) Λ₀ .tc) α} {Q : α → sProp 𝕄}
    (hk : ∀ x, Run A B K c P n (k x) Q)
    (hi : 12 ≤ i.val := by decide) (hi' : i.val < 16 := by decide) (h : stat n i = .summed := by decide) :
    Run A B K c P n (.op (.load oM (Rect.unit (s := S2048x2048) off S256x1024.size hb).toLoadRect hl) k) Q := by
  have hk' : At A B K c P n ⊢ iprop(∀ x, WP c (k x) Q) := forall_intro hk
  unfold Run
  refine Run.step' (n' := n) (X := iprop(∀ x, WP c (k x) Q)) ?_ hk'
  refine (wp_ld_home A B c i hi hi' h e).trans (wand_mono_left ?_)
  iintro H %x HR
  ihave H := H $$ HR
  iapply H

theorem Run.stOut {P : sProp 𝕄} (i : Fin 24) {n n' : Cnt} {off : Fin 2 → ℕ}
    (e : off = tileOff (kd i) (kp i) (pos (kd i) c 3)) {hb : ∀ a, off a + S256x1024.size a ≤ S2048x2048.size a}
    {w : Tile F} (hw : w = k0_pay18 (acc A B (kd i) (kp i) 3 c))
    {hx : (oM.access (Rect.unit (s := S2048x2048) off S256x1024.size hb)).Stores Finset.univ}
    {hm : (Finset.univ : Finset (Rect.unit (s := S2048x2048) off S256x1024.size hb).shape.Idx) = Finset.univ ∨ ∀ a, (Rect.unit (s := S2048x2048) off S256x1024.size hb).stride a = 1}
    {k : PUnit → Prog (TpuEff nD τ sig (Elt F) Λ₀ .tc) α} {Q : α → sProp 𝕄}
    (hk : Run A B K c P n' (k ⟨⟩) Q) (hn' : n' = ⟨n.cp, n.ac, n.ge + 1, n.sent, n.sw, n.rw⟩ := by rfl)
    (hi : 12 ≤ i.val := by decide) (hi' : i.val < 16 := by decide) (h : stat n i = .summed := by decide)
    (h' : Function.update (stat n) i .primed = stat ⟨n.cp, n.ac, n.ge + 1, n.sent, n.sw, n.rw⟩ := by decide) :
    Run A B K c P n (.op (.store oM (Rect.unit (s := S2048x2048) off S256x1024.size hb) w Finset.univ hx hm) k) Q := by
  subst hn'
  exact Run.step' (wp_st_out A B c i hi hi' h h' rfl e hw) hk

end

end Cert.Ring
end
end
-- ==== Proof.Ring.Chunk.lean ====
/-
# The partial products

A row chunk of a device's partial products is computed from its rows of A and its block of B, stored, and cut into the
four tiles that the copies carry or add into.
-/
module

public import proofs.«01_k».proof.Proof.Ring.Run

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S2048x1024 .bf16) (B : Dev nD → Vec F S1024x2048 .bf16)

/-- The whole of a shape as a rectangle moves no element. -/
theorem whole_emb (h : ∀ a, (![0, 0] : Fin 2 → ℕ) a + S1024x2048.size a ≤ S1024x2048.size a) (j : S1024x2048.Idx) :
    (Rect.unit (s := S1024x2048) ![0, 0] S1024x2048.size h).emb j = j := by
  funext a; apply Fin.ext
  match a with
  | ⟨0, _⟩ => show 0 + 1 * (j (0 : Fin 2)).val = (j (0 : Fin 2)).val; omega
  | ⟨1, _⟩ => show 0 + 1 * (j (1 : Fin 2)).val = (j (1 : Fin 2)).val; omega

/-- A tile computed goes to the copy it belongs to: the first copies carry it, later ones add into it. -/
theorem put_tile (c : Dev nD) (s : Fin 24 → Status) (i : Fin 24) (h : s i = .raw) (hi : i.val < 16) (r : Fin 4)
    (hr : pos (kd i) c (kk i) = r) :
    iprop(St A B c s ∗ own c (tP (kd i) (kp i) r) (tileV A B (kd i) (kp i) r c))
      ⊢ (St A B c (Function.update s i (if i.val < 4 then .primed else .ready)) : sProp 𝕄) := by
  subst hr
  iintro ⟨HSt, Ht⟩
  ihave H := (St_at A B c s h) $$ HSt
  icases H with ⟨HS, Hput⟩
  ihave HS := (Entails.of_eq (S_raw A B c i)) $$ HS
  by_cases h4 : i.val < 4
  · have hh : (home i c : sProp 𝕄) = iprop(emp) := if_neg (by omega)
    have hb : (back i c : sProp 𝕄) = iprop(emp) := if_neg (by omega)
    have hk : kk i = 0 := by have : i.val / 4 = 0 := by omega
                             exact this
    rw [if_pos h4]
    icases HS with ⟨Hkit, -⟩
    iapply Hput $$ %Status.primed
    rw [S_primed, hb, sval_first A B i c h4]
    isplitl [Hkit]; · iexact Hkit
    isplitl [Ht]
    · unfold srcT; rw [if_pos (show i.val < 12 by omega), hk]; iexact Ht
    iempintro
  · rw [if_neg h4]
    iapply Hput $$ %Status.ready
    rw [S_ready]
    isplitl [HS] <;> iassumption

/-- Copy `k` of direction `d`, half `p`. -/
abbrev key (d p : Fin 2) (k : Fin 4) : Fin 24 := ⟨4 * k.val + 2 * p.val + d.val, by omega⟩
theorem kd_key : ∀ (d p : Fin 2) (k : Fin 4), kd (key d p k) = d := by decide
theorem kp_key : ∀ (d p : Fin 2) (k : Fin 4), kp (key d p k) = p := by decide
theorem kk_key : ∀ (d p : Fin 2) (k : Fin 4), kk (key d p k) = k.val := by decide

theorem key_ne₁ : ∀ k₀ : Fin 4, key 0 1 k₀ ≠ key 0 0 k₀ := by decide
theorem key_ne₂ : ∀ k₀ k₁ : Fin 4, key 1 0 k₁ ≠ key 0 1 k₀ ∧ key 1 0 k₁ ≠ key 0 0 k₀ := by decide
theorem key_ne₃ : ∀ k₀ k₁ : Fin 4, key 1 1 k₁ ≠ key 1 0 k₁ ∧ key 1 1 k₁ ≠ key 0 1 k₀ ∧ key 1 1 k₁ ≠ key 0 0 k₀ := by decide

/-- The states after chunk `k₁` clockwise, `k₀` the other way, is computed. -/
def fill (s : Fin 24 → Status) (k₀ k₁ : Fin 4) : Fin 24 → Status :=
  let x (k : Fin 4) : Status := if k.val = 0 then .primed else .ready
  Function.update (Function.update (Function.update (Function.update s (key 0 0 k₀) (x k₀)) (key 0 1 k₀) (x k₀)) (key 1 0 k₁) (x k₁)) (key 1 1 k₁) (x k₁)

theorem put_key (c : Dev nD) (s : Fin 24 → Status) (d p : Fin 2) (k : Fin 4) (h : s (key d p k) = .raw) (r : Fin 4) (hr : pos d c k.val = r) :
    iprop(St A B c s ∗ own c (tP d p r) (tileV A B d p r c))
      ⊢ (St A B c (Function.update s (key d p k) (if k.val = 0 then .primed else .ready)) : sProp 𝕄) := by
  have := put_tile A B c s (key d p k) h (by show 4 * k.val + 2 * p.val + d.val < 16; omega) r (by rw [kd_key, kk_key]; exact hr)
  rw [kd_key, kp_key] at this
  rw [show (if k.val = 0 then Status.primed else .ready) = (if (key d p k).val < 4 then .primed else .ready) from by
    have : ((key d p k).val < 4) = (k.val = 0) := propext (by show 4 * k.val + 2 * p.val + d.val < 4 ↔ _; omega)
    simp only [this]]
  exact this

theorem put_chunk (c : Dev nD) (n n' : Cnt) (k₀ k₁ : Fin 4) (r : Fin 4) (h0 : pos 0 c k₀.val = r) (h1 : pos 1 c k₁.val = r)
    (hr : stat n (key 0 0 k₀) = .raw ∧ stat n (key 0 1 k₀) = .raw ∧ stat n (key 1 0 k₁) = .raw ∧ stat n (key 1 1 k₁) = .raw)
    (h' : fill (stat n) k₀ k₁ = stat n') (hn : n'.sent = n.sent) :
    iprop(R A B c n ∗ own c (chP r) (chunkV A B c r)) ⊢ R A B c n' := by
  unfold R
  rw [← h', hn]
  iintro ⟨⟨HSt, HO⟩, Hc⟩
  ihave Hc := (own_chunk c r (chunkV A B c r)) $$ Hc
  icases Hc with ⟨⟨H00, H01⟩, H10, H11⟩
  have e1 := key_ne₁ k₀
  have e2 := key_ne₂ k₀ k₁
  have e3 := key_ne₃ k₀ k₁
  isplitr [HO]
  rotate_left
  · iexact HO
  unfold fill
  dsimp only
  iapply (put_key A B c _ 1 1 k₁ (by rw [Function.update_of_ne e3.1, Function.update_of_ne e3.2.1, Function.update_of_ne e3.2.2]; exact hr.2.2.2) r h1)
  isplitr [H11]
  rotate_left
  · iexact H11
  iapply (put_key A B c _ 1 0 k₁ (by rw [Function.update_of_ne e2.1, Function.update_of_ne e2.2]; exact hr.2.2.1) r h1)
  isplitr [H10]
  rotate_left
  · iexact H10
  iapply (put_key A B c _ 0 1 k₀ (by rw [Function.update_of_ne e1]; exact hr.2.1) r h0)
  isplitr [H01]
  rotate_left
  · iexact H01
  iapply (put_key A B c _ 0 0 k₀ hr.1 r h0)
  isplitl [HSt]; · iexact HSt
  iexact H00

/-! ## The operations -/

/-- The device's blocks of A and B in its windows, and B's copy. -/
def blocks (c : Dev nD) : sProp 𝕄 := iprop((own c aM (A c) ∗ own c bM (B c)) ∗ own c bbM (k0_pay1 (B c)))

/-- The four operations of a row chunk. -/
theorem wp_chunk (c : Dev nD) (r : Fin 4) {α : Type} {off off' : Fin 2 → ℕ} (e : off = chunkOff r) (e' : off' = chunkOff r)
    {ha : ∀ a, off a + S512x1024.size a ≤ S2048x1024.size a} {hb : ∀ a, off' a + S512x2048.size a ≤ S2048x2048.size a}
    {h0 : ∀ a, (![0, 0] : Fin 2 → ℕ) a + S1024x2048.size a ≤ S1024x2048.size a}
    {la : aM.view.LoadsAt (Rect.unit (s := S2048x1024) off S512x1024.size ha).toLoadRect}
    {lb : bbM.view.LoadsAt (Rect.unit (s := S1024x2048) ![0, 0] S1024x2048.size h0).toLoadRect}
    {lp : pM.view.LoadsAt (Rect.unit (s := S2048x2048) off' S512x2048.size hb).toLoadRect}
    {hx : (pM.access (Rect.unit (s := S2048x2048) off' S512x2048.size hb)).Stores Finset.univ}
    {hm : (Finset.univ : Finset (Rect.unit (s := S2048x2048) off' S512x2048.size hb).shape.Idx) = Finset.univ ∨ ∀ a, (Rect.unit (s := S2048x2048) off' S512x2048.size hb).stride a = 1}
    {f : Vec F S512x1024 .bf16 → Vec F S1024x2048 .bf16 → Vec F S512x2048 .bf16} (hf : f = k0_pay2)
    {k : PUnit → Prog (TpuEff nD τ sig (Elt F) Λ₀ .tc) α} {Q : α → sProp 𝕄} :
    iprop(blocks A B c ∗ ownE c (chP r)) ⊢ iprop((blocks A B c ∗ own c (chP r) (chunkV A B c r) -∗ WP c (k ⟨⟩) Q)
      -∗ WP c (.op (.load aM (Rect.unit (s := S2048x1024) off S512x1024.size ha).toLoadRect la) fun x =>
        .op (.load bbM (Rect.unit (s := S1024x2048) ![0, 0] S1024x2048.size h0).toLoadRect lb) fun y =>
        .op (.load pM (Rect.unit (s := S2048x2048) off' S512x2048.size hb).toLoadRect lp) fun _ =>
        .op (.store pM (Rect.unit (s := S2048x2048) off' S512x2048.size hb) (f x y) Finset.univ hx hm) k) Q) := by
  subst e; subst hf
  unfold blocks
  iintro ⟨⟨⟨Ha, Hb⟩, Hbb⟩, Hp⟩ Hk
  ihave Hp := (Entails.of_eq (show ownE c (chP r) = iprop(∃ X : Vec F S512x2048 .bf16, own c (chP r) X) from rfl)) $$ Hp
  icases Hp with ⟨%X, Hp⟩
  iapply (own_load_in c aM (A c)) $$ Ha
  iintro Ha
  iapply (own_load_in c bbM (k0_pay1 (B c))) $$ Hbb
  iintro Hbb
  iapply (own_load c pM e' X (h' := chunkOff_inb r)) $$ Hp
  iintro Hp
  ihave Hp := (ownE_intro c _ X) $$ Hp
  iapply (own_store c pM e' (h' := chunkOff_inb r)) $$ Hp
  iintro Hp
  iapply Hk
  isplitr [Hp]
  · isplitr [Hbb]
    · isplitl [Ha] <;> iassumption
    iexact Hbb
  rw [show (fun j => k0_pay1 (B c) ((Rect.unit (s := S1024x2048) ![0, 0] S1024x2048.size h0).emb j)) = k0_pay1 (B c) from
    funext fun j => by rw [whole_emb]]
  iexact Hp

variable (K : Dev nD × KIx → ℕ)

/-- A row chunk computed, as a step: the chunk's place goes from what is besides into the copies. -/
theorem Run.chunk {A B K} {c : Dev nD} {α : Type} {P : sProp 𝕄} (k₀ k₁ r : Fin 4) (h0 : pos 0 c k₀.val = r) (h1 : pos 1 c k₁.val = r)
    {n n' : Cnt} {off off' : Fin 2 → ℕ} (e : off = chunkOff r) (e' : off' = chunkOff r)
    {ha : ∀ a, off a + S512x1024.size a ≤ S2048x1024.size a} {hb : ∀ a, off' a + S512x2048.size a ≤ S2048x2048.size a}
    {hz : ∀ a, (![0, 0] : Fin 2 → ℕ) a + S1024x2048.size a ≤ S1024x2048.size a}
    {la : aM.view.LoadsAt (Rect.unit (s := S2048x1024) off S512x1024.size ha).toLoadRect}
    {lb : bbM.view.LoadsAt (Rect.unit (s := S1024x2048) ![0, 0] S1024x2048.size hz).toLoadRect}
    {lp : pM.view.LoadsAt (Rect.unit (s := S2048x2048) off' S512x2048.size hb).toLoadRect}
    {hx : (pM.access (Rect.unit (s := S2048x2048) off' S512x2048.size hb)).Stores Finset.univ}
    {hm : (Finset.univ : Finset (Rect.unit (s := S2048x2048) off' S512x2048.size hb).shape.Idx) = Finset.univ ∨ ∀ a, (Rect.unit (s := S2048x2048) off' S512x2048.size hb).stride a = 1}
    {f : Vec F S512x1024 .bf16 → Vec F S1024x2048 .bf16 → Vec F S512x2048 .bf16}
    {k : PUnit → Prog (TpuEff nD τ sig (Elt F) Λ₀ .tc) α} {Q : α → sProp 𝕄}
    (hk : Run A B K c iprop(blocks A B c ∗ P) n' (k ⟨⟩) Q) (hf : f = k0_pay2 := by rfl)
    (hn' : n' = ⟨n.cp + 1, n.ac, n.ge, n.sent, n.sw, n.rw⟩ := by rfl)
    (hr : stat n (key 0 0 k₀) = .raw ∧ stat n (key 0 1 k₀) = .raw ∧ stat n (key 1 0 k₁) = .raw ∧ stat n (key 1 1 k₁) = .raw := by decide)
    (h' : fill (stat n) k₀ k₁ = stat ⟨n.cp + 1, n.ac, n.ge, n.sent, n.sw, n.rw⟩ := by decide) :
    Run A B K c iprop(blocks A B c ∗ ownE c (chP r) ∗ P) n
      (.op (.load aM (Rect.unit (s := S2048x1024) off S512x1024.size ha).toLoadRect la) fun x =>
        .op (.load bbM (Rect.unit (s := S1024x2048) ![0, 0] S1024x2048.size hz).toLoadRect lb) fun y =>
        .op (.load pM (Rect.unit (s := S2048x2048) off' S512x2048.size hb).toLoadRect lp) fun _ =>
        .op (.store pM (Rect.unit (s := S2048x2048) off' S512x2048.size hb) (f x y) Finset.univ hx hm) k) Q := by
  subst hn'
  unfold Run At at *
  iintro ⟨⟨#Hr, HR⟩, Hb, Hc, HP⟩
  iapply (wp_chunk A B c r e e' hf) $$ [Hb Hc]
  · isplitl [Hb] <;> iassumption
  iintro ⟨Hb, Hc⟩
  iapply hk
  isplitr [Hb HP]
  · isplitr; · iexact Hr
    iapply (put_chunk A B c n _ k₀ k₁ r h0 h1 hr h' rfl)
    isplitl [HR] <;> iassumption
  isplitl [Hb] <;> iassumption

end Cert.Ring
end
end
-- ==== Proof.Ring.Start.lean ====
/-
# The program's beginning

Part 1 copies the device's block of B beside its window. Part 2 is the handshake: a device signals both neighbours, handing
each the tiles it will write, waits for their two signals, which bring the neighbours' tiles, and computes its first row chunk.
-/
module

public import proofs.«01_k».proof.Proof.Ring.Chunk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S2048x1024 .bf16) (B : Dev nD → Vec F S1024x2048 .bf16)

/-! ## What is there before the handshake -/

/-- The tiles of device `c` that the neighbour sending in direction `d` will write. -/
def gift (d : Fin 2) (c : Dev nD) : sProp 𝕄 := bigSep Finset.univ fun e : Fin 12 => ownE c (dstT (dirKey d e) c)

/-- The tokens of the barrier: the duties paid at both neighbours', the device's own position and credit. -/
def barKit (c : Dev nD) : sProp 𝕄 :=
  iprop((dutyTok ER (barCell (nxt 1 c)) 0 0 ∗ dutyTok ER (barCell (nxt 0 c)) 0 1)
    ∗ atPos ER (barCell c) 0 ∅ 0 ∗ cred (tallyAt (barCell c) () 2))

def Pre (c : Dev nD) : sProp 𝕄 :=
  iprop(((∃ W, owes (c : Thread nD τ) (owed₀ c) W) ∗ barKit c) ∗ (gift 0 c ∗ gift 1 c)
    ∗ (bigSep Finset.univ fun i : Fin 24 => kit₀ i c) ∗ bigSep Finset.univ fun i : Fin 24 => home i c)

theorem nxt_nxt : ∀ c : Dev nD, nxt 0 (nxt 1 c) = c ∧ nxt 1 (nxt 0 c) = c := by decide

theorem pay_bar0 (c : Dev nD) : (ringRd A B).payload (barCell (nxt 1 c)) 0 0 = gift (F := F) 0 c := by
  show barPay 0 (nxt 1 c) = _
  unfold barPay gift; rw [(nxt_nxt c).1]
theorem pay_bar1 (c : Dev nD) : (ringRd A B).payload (barCell (nxt 0 c)) 0 1 = gift (F := F) 1 c := by
  show barPay 1 (nxt 0 c) = _
  unfold barPay gift; rw [(nxt_nxt c).2]

/-- The copies' numbers, by direction. -/
def keys : Fin 2 × Fin 12 ≃ Fin 24 where
  toFun x := dirKey x.1 x.2
  invFun i := (kd i, ⟨i.val / 2, by omega⟩)
  left_inv x := by revert x; decide
  right_inv i := by revert i; decide

/-- By directions, or all at once. -/
theorem bigSep_keys (Φ : Fin 24 → sProp 𝕄) :
    bigSep Finset.univ Φ = iprop((bigSep Finset.univ fun e => Φ (dirKey 0 e)) ∗ bigSep Finset.univ fun e => Φ (dirKey 1 e)) := by
  rw [bigSep_univ_equiv keys Φ, bigSep_univ_prod, bigSep_fin_two]; rfl

theorem pays_eq (c : Dev nD) : iprop(barPay (F := F) 0 c ∗ barPay (F := F) 1 c)
    = bigSep Finset.univ fun i : Fin 24 => ownE (F := F) (nxt (kd i) c) (dstT i (nxt (kd i) c)) := by
  rw [bigSep_keys]
  have h : ∀ d, barPay (F := F) d c = bigSep Finset.univ fun e : Fin 12 => ownE (F := F) (nxt (kd (dirKey d e)) c) (dstT (dirKey d e) (nxt (kd (dirKey d e)) c)) := fun d =>
    bigSep_congr fun e _ => by rw [kd_dirKey]
  rw [← h 0, ← h 1]

/-- With the neighbours' tiles every copy is at its first state. -/
theorem St_start (c : Dev nD) :
    iprop((barPay (F := F) 0 c ∗ barPay 1 c) ∗ (bigSep Finset.univ fun i : Fin 24 => kit₀ i c) ∗ bigSep Finset.univ fun i : Fin 24 => home i c)
      ⊢ St A B c (fun _ => .raw) := by
  have h : (St A B c (fun _ => .raw) : sProp 𝕄) = iprop(((bigSep Finset.univ fun i : Fin 24 => kit₀ i c)
      ∗ bigSep Finset.univ fun i : Fin 24 => ownE (F := F) (nxt (kd i) c) (dstT i (nxt (kd i) c))) ∗ bigSep Finset.univ fun i : Fin 24 => home i c) := by
    rw [← bigSep_sep', ← bigSep_sep']; rfl
  rw [h, pays_eq]
  iintro ⟨H1, H2, H3⟩
  isplitl [H1 H2]
  · isplitl [H2] <;> iassumption
  iexact H3

theorem stat_start : stat ⟨0, 0, 0, 0, 0, 0⟩ = fun _ => .raw := by decide

/-! ## The two parts -/

/-- A store to a whole buffer. -/
theorem own_store_all (c : Dev nD) {α : Type} {w : Vec F S1024x2048 .bf16} {h : ∀ a, (![0, 0] : Fin 2 → ℕ) a + S1024x2048.size a ≤ S1024x2048.size a}
    {hx : (bbM.access (Rect.unit (s := S1024x2048) ![0, 0] S1024x2048.size h)).Stores Finset.univ}
    {hm : (Finset.univ : Finset (Rect.unit (s := S1024x2048) ![0, 0] S1024x2048.size h).shape.Idx) = Finset.univ ∨ ∀ a, (Rect.unit (s := S1024x2048) ![0, 0] S1024x2048.size h).stride a = 1}
    {k : PUnit → Prog (TpuEff nD τ sig (Elt F) Λ₀ .tc) α} {Q : α → sProp 𝕄} :
    ownE c bbM ⊢ iprop((own c bbM w -∗ WP c (k ⟨⟩) Q)
        -∗ WP c (.op (.store bbM (Rect.unit (s := S1024x2048) ![0, 0] S1024x2048.size h) w Finset.univ hx hm) k) Q) := by
  unfold ownE own owns
  iintro ⟨%X, %f, %hf, H⟩ Hk
  iapply (wp_store 𝒱₀ (c : Thread nD τ) none Set.univ (m := bbM) (r := Rect.unit (s := S1024x2048) ![0, 0] S1024x2048.size h) (w := w) (Mk := Finset.univ)
    (S := bbM.view.set) (f := f) (hx := hx) (hm := hm) (k := k) (View.set_slice_subset _ _)) $$ H
  iintro H
  iapply Hk
  iexists _
  isplitr
  rotate_left
  · iexact H
  · ipureintro
    have hz : (![0, 0] : Fin 2 → ℕ) = fun _ => 0 := funext fun a => by fin_cases a <;> rfl
    have e : (bbM.access (Rect.unit (s := S1024x2048) ![0, 0] S1024x2048.size h)).write (Elt F) f w Finset.univ = w :=
      Memref.write_access_unit_zero_univ (Elt F) cc0_scratch1 hz _ f w
    rw [e]; rfl

variable {A B} {K : Dev nD × KIx → ℕ} {c : Dev nD}
variable {w0 : aM.IsWhole} {w1 : bM.IsWhole} {w2 : oM.IsWhole} {w3 : pM.IsWhole} {w4 : bbM.IsWhole} {w5 : (cM 0).IsWhole} {w6 : (cM 1).IsWhole}

theorem part1 {P : sProp 𝕄} {Q : (Σ' (_ : Dev nD) (_ : BitVec 32) (_ : BitVec 32) (_ : BitVec 32), Sems sig S_) → sProp 𝕄}
    (h : ∀ x y z, iprop(blocks A B c ∗ P) ⊢ Q ⟨c, x, y, z, SemArray.scalar (sig.barrier 0 rfl)⟩) :
    iprop(((own c aM (A c) ∗ own c bM (B c)) ∗ ownE c bbM) ∗ P)
      ⊢ WP c (k0_part1 aM w0 bM w1 oM w2 pM w3 bbM w4 (cM 0) w5 (cM 1) w6 cc0_scratch4 cc0_scratch5 cc0_scratch6 cc0_scratch7) Q := by
  rw [k0_part1_eq_skeleton]; unfold k0_part1_skel
  simp only [Prog.lift, Prog.bind_op, Prog.bind_ret, Prog.pure_eq_ret, wp_deviceId, WP]
  iintro ⟨⟨⟨Ha, Hb⟩, Hbb⟩, HP⟩
  iapply (own_load_in c bM (B c)) $$ Hb
  iintro Hb
  ihave Hbb := (Entails.of_eq (show ownE c bbM = iprop(∃ X : Vec F S1024x2048 .bf16, own c bbM X) from rfl)) $$ Hbb
  icases Hbb with ⟨%X, Hbb⟩
  iapply (own_load_in c bbM X) $$ Hbb
  iintro Hbb
  ihave Hbb := (ownE_intro c bbM X) $$ Hbb
  iapply (own_store_all c) $$ Hbb
  iintro Hbb
  unfold WP
  rw [wp_ret]; imodintro
  iapply (h _ _ _)
  unfold blocks
  isplitr [HP]
  rotate_left
  · iexact HP
  isplitl [Ha Hb]
  · isplitl [Ha] <;> iassumption
  rw [show (fun j => B c ((Rect.unit (s := S1024x2048) ![0, 0] S1024x2048.size inb_S1024x2048_S1024x2048_0_0).emb j)) = B c from
    funext fun j => by rw [whole_emb]]
  iexact Hbb

/-- The handshake, before any program `p`. -/
theorem handshake {P : sProp 𝕄} {α : Type} {p : PUnit → Prog (TpuEff nD τ sig (Elt F) Λ₀ .tc) α} {Q : α → sProp 𝕄} {d0 d1 : Dev nD}
    (e0 : d0 = nxt 1 c) (e1 : d1 = nxt 0 c) {n₁ n₂ : ℕ} (h1 : n₁ = 1) (h2 : n₂ = 2)
    (h : At A B K c iprop(semVal (barCell c) 0 ∗ P) ⟨0, 0, 0, 0, 0, 0⟩ ⊢ WP c (p ⟨⟩) Q) :
    iprop((recs A B K ∗ Pre c) ∗ P)
      ⊢ WP c (.op (.semSignal (d0 : Thread nD τ) barS n₁) fun _ => .op (.semSignal (d1 : Thread nD τ) barS n₁) fun _ => .op (.semWait barS n₂) p) Q := by
  subst e0; subst e1; subst h1; subst h2
  unfold Pre barKit
  iintro ⟨⟨#Hr, ⟨⟨%W, HO⟩, ⟨Ht0, Ht1⟩, Hat, Hc⟩, ⟨Hg0, Hg1⟩, Hkit, Hhome⟩, HP⟩
  iapply (Rounds.wp_signal 𝒱₀ ER (ringRd A B) (c : Thread nD τ) none (dst := (nxt 1 c : Thread nD τ)) (κ := K (nxt 1 c, none)) (r := 0)
      (d := 0) (by rw [duties_bar]; exact Finset.mem_univ _) (show (1 : ℕ) = 1 from rfl) () (owed₁ c) rfl) $$ [HO Ht0 Hg0]
  · isplitr; · iapply (recs_inv A B K (nxt 1 c, none)); iexact Hr
    isplitl [HO]; · iexact HO
    isplitl [Ht0]; · iexact Ht0
    isplitl [Hg0]; · rw [pay_bar0]; iexact Hg0
    iapply (recs_reached A B K (nxt 1 c, none)); iexact Hr
  iintro HO
  iapply (Rounds.wp_signal 𝒱₀ ER (ringRd A B) (c : Thread nD τ) none (dst := (nxt 0 c : Thread nD τ)) (κ := K (nxt 0 c, none)) (r := 0)
      (d := 1) (by rw [duties_bar]; exact Finset.mem_univ _) (show (1 : ℕ) = 1 from rfl) () (owed c 24) rfl) $$ [HO Ht1 Hg1]
  · isplitr; · iapply (recs_inv A B K (nxt 0 c, none)); iexact Hr
    isplitl [HO]; · iexact HO
    isplitl [Ht1]; · iexact Ht1
    isplitl [Hg1]; · rw [pay_bar1]; iexact Hg1
    iapply (recs_reached A B K (nxt 0 c, none)); iexact Hr
  iintro HO
  iapply (Rounds.wp_wait_rest_token 𝒱₀ ER (ringRd A B) (c : Thread nD τ) none (κ := K (c, none))
      (wpE_semWait_eq 𝒱₀ (c : Thread nD τ) none Set.univ) (Set.mem_univ _) () (O := owed c 24) (W := W) (R := 0) (m := 0) (T := ∅)
      (by rw [expect_bar])) $$ [Hc HO Hat]
  · isplitr; · iapply (recs_inv A B K (c, none)); iexact Hr
    isplitl [Hc]; · iexact Hc
    isplitl [HO]; · iexact HO
    isplitr; · iapply (mayWait_bar c); iapply (recs_lev A B K); iexact Hr
    iexact Hat
  iintro ⟨HO, Hat, -, Hpay⟩
  ihave Hpay := (Entails.of_eq (rest_bar A B c)) $$ Hpay
  imod (Rounds.cell_close ER (ringRd A B) (Set.mem_univ (K (c, none))) (fun h => h) (R := 0 + 1) (duties_later A B (barCell c))) $$ [Hat] with Hz
  · isplitr; · iapply (recs_inv A B K (c, none)); iexact Hr
    iexact Hat
  ihave HSt := (St_start A B c) $$ [Hpay Hkit Hhome]
  · isplitl [Hpay]; · iexact Hpay
    isplitl [Hkit] <;> iassumption
  iapply h
  unfold At
  isplitl [HSt HO]
  · isplitr; · iexact Hr
    iapply (R_intro A B c ⟨0, 0, 0, 0, 0, 0⟩ _ stat_start.symm 24 rfl _)
    isplitl [HSt]; · iexact HSt
    iexact HO
  isplitl [Hz] <;> iassumption

theorem part2 {P : sProp 𝕄} (v2 v25 : BitVec 32) {Q : PUnit → sProp 𝕄}
    (h : ∀ r, At A B K c iprop(blocks A B c ∗ semVal (barCell c) 0 ∗ P) ⟨1, 0, 0, 0, 0, 0⟩ ⊢ Q r) :
    iprop((recs A B K ∗ Pre c) ∗ blocks A B c ∗ ownE c (chP (pos 1 c 0)) ∗ P)
      ⊢ WP c (k0_part2 aM w0 bM w1 oM w2 pM w3 bbM w4 (cM 0) w5 (cM 1) w6 cc0_scratch4 cc0_scratch5 cc0_scratch6 cc0_scratch7
        c v2 v25 (SemArray.scalar (sig.barrier 0 rfl))) Q := by
  rw [k0_part2_eq_skeleton]; unfold k0_part2_skel
  simp only [semSignalWord, semWaitWord, Prog.lift, Prog.bind_op, Prog.bind_ret, Prog.pure_eq_ret]
  refine handshake (dev1_eq c) (dev2_eq c) (by decide) (by decide) ?_
  have e : At A B K c iprop(semVal (barCell c) 0 ∗ blocks A B c ∗ ownE c (chP (pos 1 c 0)) ∗ P) ⟨0, 0, 0, 0, 0, 0⟩
      ⊢ At A B K c iprop(blocks A B c ∗ ownE c (chP (pos 1 c 0)) ∗ semVal (barCell c) 0 ∗ P) ⟨0, 0, 0, 0, 0, 0⟩ := by
    unfold At
    refine sep_mono_right ?_
    iintro ⟨Hz, Hb, Hc, HP⟩
    isplitl [Hb]; · iexact Hb
    isplitl [Hc]; · iexact Hc
    isplitl [Hz] <;> iassumption
  refine e.trans ?_
  refine Run.chunk 0 0 _ rfl rfl (off1_eq c) (off2_eq c) ?_
  exact Run.ret (h _)

end Cert.Ring
end
end
-- ==== Proof.Ring.Reduce.lean ====
/-
# The program's parts, up to the last sum

Parts 3 to 24: the first copies are started, the other row chunks computed, and then, hop by hop, each landed tile is
added into the device's own and sent on.
-/
module

public import proofs.«01_k».proof.Proof.Ring.Chunk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → Vec F S2048x1024 .bf16} {B : Dev nD → Vec F S1024x2048 .bf16} {K : Dev nD × KIx → ℕ} {c : Dev nD}
variable {w0 : aM.IsWhole} {w1 : bM.IsWhole} {w2 : oM.IsWhole} {w3 : pM.IsWhole} {w4 : bbM.IsWhole} {w5 : (cM 0).IsWhole} {w6 : (cM 1).IsWhole}

theorem turn_pos1 : ∀ c : Dev nD, pos 0 c 3 = pos 1 c 1 := by decide
theorem turn_pos2 : ∀ c : Dev nD, pos 0 c 2 = pos 1 c 2 := by decide
theorem turn_pos3 : ∀ c : Dev nD, pos 0 c 1 = pos 1 c 3 := by decide

theorem part3 {P : sProp 𝕄} (v2 v14 : BitVec 32) {Q : (Σ' (_ : BitVec 32), BitVec 32) → sProp 𝕄}
    (h : ∀ r, At A B K c P ⟨1, 0, 0, 2, 0, 0⟩ ⊢ Q r) :
    Run A B K c P ⟨1, 0, 0, 0, 0, 0⟩ (k0_part3 aM w0 bM w1 oM w2 pM w3 bbM w4 (cM 0) w5 (cM 1) w6
      cc0_scratch4 cc0_scratch5 cc0_scratch6 cc0_scratch7 c v2 v14) Q := by
  rw [k0_part3_eq_skeleton]; unfold k0_part3_skel
  simp only [Prog.lift, Prog.bind_op, Prog.bind_ret, Prog.pure_eq_ret]
  refine Run.copyP 0 (dev3_eq c) (off3_eq c 0) ?_
  refine Run.copyP 1 (dev4_eq c) (off4_eq c 0) ?_
  exact Run.ret (h _)

theorem part4 {P : sProp 𝕄} (v2 v14 v25 v94 v95 : BitVec 32) {Q : (Σ' (_ : BitVec 32), BitVec 32) → sProp 𝕄}
    (h : ∀ r, At A B K c P ⟨1, 0, 0, 3, 0, 0⟩ ⊢ Q r) :
    Run A B K c P ⟨1, 0, 0, 2, 0, 0⟩ (k0_part4 aM w0 bM w1 oM w2 pM w3 bbM w4 (cM 0) w5 (cM 1) w6
      cc0_scratch4 cc0_scratch5 cc0_scratch6 cc0_scratch7 c v2 v14 v25 v94 v95) Q := by
  rw [k0_part4_eq_skeleton]; unfold k0_part4_skel
  simp only [Prog.lift, Prog.bind_op, Prog.bind_ret, Prog.pure_eq_ret]
  refine Run.copyP 2 (dev5_eq c) (off5_eq c 0) ?_
  exact Run.ret (h _)

theorem part5 {P : sProp 𝕄} (v2 v126 c0_i32_92 : BitVec 32) {Q : (Σ' (_ : BitVec 32) (_ : BitVec 32) (_ : BitVec 1), BitVec 1) → sProp 𝕄}
    (h : ∀ r, At A B K c iprop(blocks A B c ∗ P) ⟨2, 0, 0, 4, 0, 0⟩ ⊢ Q r) :
    Run A B K c iprop(blocks A B c ∗ ownE c (chP (pos 1 c 1)) ∗ P) ⟨1, 0, 0, 3, 0, 0⟩ (k0_part5 aM w0 bM w1 oM w2 pM w3 bbM w4 (cM 0) w5 (cM 1) w6
      cc0_scratch4 cc0_scratch5 cc0_scratch6 cc0_scratch7 c v2 v126 c0_i32_92) Q := by
  rw [k0_part5_eq_skeleton]; unfold k0_part5_skel
  simp only [Prog.lift, Prog.bind_op, Prog.bind_ret, Prog.pure_eq_ret]
  refine Run.copyP 3 (dev6_eq c) (off6_eq c 0) ?_
  refine Run.chunk 3 1 _ (turn_pos1 c) rfl (off7_eq c 0) (off8_eq c 0) ?_
  exact Run.ret (h _)

theorem part6 {P : sProp 𝕄} (v2 v159 v160 : BitVec 32) (v161 v162 : BitVec 1) {Q : (PUnit) → sProp 𝕄}
    (h : ∀ r, At A B K c iprop(blocks A B c ∗ P) ⟨4, 0, 0, 4, 0, 0⟩ ⊢ Q r) :
    Run A B K c iprop(blocks A B c ∗ ownE c (chP (pos 1 c 3)) ∗ ownE c (chP (pos 1 c 2)) ∗ P) ⟨2, 0, 0, 4, 0, 0⟩ (k0_part6 aM w0 bM w1 oM w2 pM w3 bbM w4 (cM 0) w5 (cM 1) w6
      cc0_scratch4 cc0_scratch5 cc0_scratch6 cc0_scratch7 c v2 v159 v160 v161 v162) Q := by
  rw [k0_part6_eq_skeleton]; unfold k0_part6_skel
  simp only [Prog.lift, Prog.bind_op, Prog.bind_ret, Prog.pure_eq_ret]
  refine Run.chunk 1 3 _ (turn_pos3 c) rfl (off7_eq c 2) (off8_eq c 2) ?_
  refine Run.chunk 2 2 _ (turn_pos2 c) rfl (off7_eq c 1) (off8_eq c 1) ?_
  exact Run.ret (h _)

theorem part7 {P : sProp 𝕄} (v2 v25 : BitVec 32) {Q : (Σ' (_ : BitVec 32), Tile F) → sProp 𝕄}
    (h : ∀ r, At A B K c P ⟨4, 0, 0, 4, 1, 1⟩ ⊢ Q ⟨r, tileV A B 0 0 (pos 0 c 1) c⟩) :
    Run A B K c P ⟨4, 0, 0, 4, 0, 0⟩ (k0_part7 aM w0 bM w1 oM w2 pM w3 bbM w4 (cM 0) w5 (cM 1) w6
      cc0_scratch4 cc0_scratch5 cc0_scratch6 cc0_scratch7 c v2 v25) Q := by
  rw [k0_part7_eq_skeleton]; unfold k0_part7_skel
  simp only [Prog.lift, Prog.bind_op, Prog.bind_ret, Prog.pure_eq_ret]
  refine Run.swait 0 ?_
  refine Run.rwait 0 ?_
  refine Run.ldPart 4 (off9_eq c 0) ?_
  exact Run.ret (h _)

theorem part8 {P : sProp 𝕄} (v2 v25 v226 : BitVec 32) {Q : (PUnit) → sProp 𝕄}
    (h : ∀ r, At A B K c P ⟨4, 1, 0, 5, 1, 1⟩ ⊢ Q r) :
    Run A B K c P ⟨4, 0, 0, 4, 1, 1⟩ (k0_part8 aM w0 bM w1 oM w2 pM w3 bbM w4 (cM 0) w5 (cM 1) w6
      cc0_scratch4 cc0_scratch5 cc0_scratch6 cc0_scratch7 c v2 v25 v226 (tileV A B 0 0 (pos 0 c 1) c)) Q := by
  rw [k0_part8_eq_skeleton]; unfold k0_part8_skel
  simp only [Prog.lift, Prog.bind_op, Prog.bind_ret, Prog.pure_eq_ret]
  refine Run.ldLand 0 ?_
  refine Run.ldPart 4 (off9_eq c 0) ?_
  refine Run.stSum 4 (off9_eq c 0) (acc_up 0 (by decide)) ?_
  refine Run.copyP 4 (dev7_eq c) (off3_eq c 1) ?_
  exact Run.ret (h _)

theorem part9 {P : sProp 𝕄} (v2 v14 : BitVec 32) {Q : (Σ' (_ : Tile F), Tile F) → sProp 𝕄}
    (h : ∀ r, At A B K c P ⟨4, 1, 0, 5, 2, 2⟩ ⊢ Q ⟨k0_pay7 (tileV A B 1 0 (pos 1 c 1) c) (slot4 (rval A B 1 c)), r⟩) :
    Run A B K c P ⟨4, 1, 0, 5, 1, 1⟩ (k0_part9 aM w0 bM w1 oM w2 pM w3 bbM w4 (cM 0) w5 (cM 1) w6
      cc0_scratch4 cc0_scratch5 cc0_scratch6 cc0_scratch7 c v2 v14) Q := by
  rw [k0_part9_eq_skeleton]; unfold k0_part9_skel
  simp only [Prog.lift, Prog.bind_op, Prog.bind_ret, Prog.pure_eq_ret]
  refine Run.swait 1 ?_
  refine Run.rwait 1 ?_
  refine Run.ldPart 5 (off10_eq c 0) ?_
  refine Run.ldLand 1 ?_
  refine Run.ldPart 5 (off10_eq c 0) ?_
  exact Run.ret (h _)

theorem part10 {P : sProp 𝕄} (v2 v14 : BitVec 32) (v290 : Vec F S256x1024 .bf16) {Q : (PUnit) → sProp 𝕄}
    (h : ∀ r, At A B K c P ⟨4, 2, 0, 6, 3, 2⟩ ⊢ Q r) :
    Run A B K c P ⟨4, 1, 0, 5, 2, 2⟩ (k0_part10 aM w0 bM w1 oM w2 pM w3 bbM w4 (cM 0) w5 (cM 1) w6
      cc0_scratch4 cc0_scratch5 cc0_scratch6 cc0_scratch7 c v2 v14 (k0_pay7 (tileV A B 1 0 (pos 1 c 1) c) (slot4 (rval A B 1 c))) v290) Q := by
  rw [k0_part10_eq_skeleton]; unfold k0_part10_skel
  simp only [Prog.lift, Prog.bind_op, Prog.bind_ret, Prog.pure_eq_ret]
  refine Run.stSum 5 (off10_eq c 0) (acc_up 1 (by decide)) ?_
  refine Run.copyP 5 (dev8_eq c) (off4_eq c 1) ?_
  refine Run.swait 2 ?_
  exact Run.ret (h _)

theorem part11 {P : sProp 𝕄} (v2 v25 : BitVec 32) {Q : (Σ' (_ : BitVec 32), BitVec 32) → sProp 𝕄}
    (h : ∀ r, At A B K c P ⟨4, 3, 0, 6, 3, 3⟩ ⊢ Q r) :
    Run A B K c P ⟨4, 2, 0, 6, 3, 2⟩ (k0_part11 aM w0 bM w1 oM w2 pM w3 bbM w4 (cM 0) w5 (cM 1) w6
      cc0_scratch4 cc0_scratch5 cc0_scratch6 cc0_scratch7 c v2 v25) Q := by
  rw [k0_part11_eq_skeleton]; unfold k0_part11_skel
  simp only [Prog.lift, Prog.bind_op, Prog.bind_ret, Prog.pure_eq_ret]
  refine Run.rwait 2 ?_
  refine Run.sum 2 (off11_eq c 0) ?_
  exact Run.ret (h _)

theorem part12 {P : sProp 𝕄} (v14 v25 v351 c4_i32_269 : BitVec 32) {Q : (PUnit) → sProp 𝕄}
    (h : ∀ r, At A B K c P ⟨4, 3, 0, 7, 4, 3⟩ ⊢ Q r) :
    Run A B K c P ⟨4, 3, 0, 6, 3, 3⟩ (k0_part12 aM w0 bM w1 oM w2 pM w3 bbM w4 (cM 0) w5 (cM 1) w6
      cc0_scratch4 cc0_scratch5 cc0_scratch6 cc0_scratch7 c v14 v25 v351 c4_i32_269) Q := by
  rw [k0_part12_eq_skeleton]; unfold k0_part12_skel
  simp only [Prog.lift, Prog.bind_op, Prog.bind_ret, Prog.pure_eq_ret]
  refine Run.copyP 6 (dev9_eq c) (off5_eq c 1) ?_
  refine Run.swait 3 ?_
  exact Run.ret (h _)

theorem part13 {P : sProp 𝕄} (v2 : BitVec 32) {Q : (Σ' (_ : BitVec 32) (_ : BitVec 32) (_ : BitVec 1) (_ : BitVec 1), BitVec 32) → sProp 𝕄}
    (h : ∀ r, At A B K c P ⟨4, 4, 0, 7, 4, 4⟩ ⊢ Q r) :
    Run A B K c P ⟨4, 3, 0, 7, 4, 3⟩ (k0_part13 aM w0 bM w1 oM w2 pM w3 bbM w4 (cM 0) w5 (cM 1) w6
      cc0_scratch4 cc0_scratch5 cc0_scratch6 cc0_scratch7 c v2) Q := by
  rw [k0_part13_eq_skeleton]; unfold k0_part13_skel
  simp only [Prog.lift, Prog.bind_op, Prog.bind_ret, Prog.pure_eq_ret]
  refine Run.rwait 3 ?_
  refine Run.sum 3 (off12_eq c 0) ?_
  exact Run.ret (h _)

theorem part14 {P : sProp 𝕄} (v14 v25 v409 v410 : BitVec 32) (v411 v412 : BitVec 1) (c0_i32_323 : BitVec 32) {Q : (BitVec 32) → sProp 𝕄}
    (h : ∀ r, At A B K c P ⟨4, 4, 0, 8, 5, 5⟩ ⊢ Q r) :
    Run A B K c P ⟨4, 4, 0, 7, 4, 4⟩ (k0_part14 aM w0 bM w1 oM w2 pM w3 bbM w4 (cM 0) w5 (cM 1) w6
      cc0_scratch4 cc0_scratch5 cc0_scratch6 cc0_scratch7 c v14 v25 v409 v410 v411 v412 c0_i32_323) Q := by
  rw [k0_part14_eq_skeleton]; unfold k0_part14_skel
  simp only [Prog.lift, Prog.bind_op, Prog.bind_ret, Prog.pure_eq_ret]
  refine Run.copyP 7 (dev10_eq c) (off6_eq c 1) ?_
  refine Run.swait 4 ?_
  refine Run.rwait 4 ?_
  exact Run.ret (h _)

theorem part15 {P : sProp 𝕄} (v2 c1_i32_352 : BitVec 32) {Q : (Σ' (_ : BitVec 32), BitVec 32) → sProp 𝕄}
    (h : ∀ r, At A B K c P ⟨4, 5, 0, 8, 5, 5⟩ ⊢ Q r) :
    Run A B K c P ⟨4, 4, 0, 8, 5, 5⟩ (k0_part15 aM w0 bM w1 oM w2 pM w3 bbM w4 (cM 0) w5 (cM 1) w6
      cc0_scratch4 cc0_scratch5 cc0_scratch6 cc0_scratch7 c v2 c1_i32_352) Q := by
  rw [k0_part15_eq_skeleton]; unfold k0_part15_skel
  simp only [Prog.lift, Prog.bind_op, Prog.bind_ret, Prog.pure_eq_ret]
  refine Run.sum 4 (off9_eq c 1) ?_
  exact Run.ret (h _)

theorem part16 {P : sProp 𝕄} (v2 v14 v25 v475 c512_i32_376 : BitVec 32) {Q : (Σ' (_ : BitVec 32), BitVec 32) → sProp 𝕄}
    (h : ∀ r, At A B K c P ⟨4, 5, 0, 9, 6, 6⟩ ⊢ Q r) :
    Run A B K c P ⟨4, 5, 0, 8, 5, 5⟩ (k0_part16 aM w0 bM w1 oM w2 pM w3 bbM w4 (cM 0) w5 (cM 1) w6
      cc0_scratch4 cc0_scratch5 cc0_scratch6 cc0_scratch7 c v2 v14 v25 v475 c512_i32_376) Q := by
  rw [k0_part16_eq_skeleton]; unfold k0_part16_skel
  simp only [Prog.lift, Prog.bind_op, Prog.bind_ret, Prog.pure_eq_ret]
  refine Run.copyP 8 (dev11_eq c) (off3_eq c 2) ?_
  refine Run.swait 5 ?_
  refine Run.rwait 5 ?_
  exact Run.ret (h _)

theorem part17 {P : sProp 𝕄} (v2 v14 v499 v501 : BitVec 32) {Q : (Σ' (_ : BitVec 32), BitVec 32) → sProp 𝕄}
    (h : ∀ r, At A B K c P ⟨4, 6, 0, 9, 6, 6⟩ ⊢ Q r) :
    Run A B K c P ⟨4, 5, 0, 9, 6, 6⟩ (k0_part17 aM w0 bM w1 oM w2 pM w3 bbM w4 (cM 0) w5 (cM 1) w6
      cc0_scratch4 cc0_scratch5 cc0_scratch6 cc0_scratch7 c v2 v14 v499 v501) Q := by
  rw [k0_part17_eq_skeleton]; unfold k0_part17_skel
  simp only [Prog.lift, Prog.bind_op, Prog.bind_ret, Prog.pure_eq_ret]
  refine Run.sum 5 (off10_eq c 1) ?_
  exact Run.ret (h _)

theorem part18 {P : sProp 𝕄} (v2 v25 v534 c0_i32_433 : BitVec 32) {Q : (Σ' (_ : BitVec 32) (_ : BitVec 32) (_ : BitVec 1) (_ : BitVec 1), BitVec 32) → sProp 𝕄}
    (h : ∀ r, At A B K c P ⟨4, 6, 0, 10, 7, 7⟩ ⊢ Q r) :
    Run A B K c P ⟨4, 6, 0, 9, 6, 6⟩ (k0_part18 aM w0 bM w1 oM w2 pM w3 bbM w4 (cM 0) w5 (cM 1) w6
      cc0_scratch4 cc0_scratch5 cc0_scratch6 cc0_scratch7 c v2 v25 v534 c0_i32_433) Q := by
  rw [k0_part18_eq_skeleton]; unfold k0_part18_skel
  simp only [Prog.lift, Prog.bind_op, Prog.bind_ret, Prog.pure_eq_ret]
  refine Run.copyP 9 (dev12_eq c) (off4_eq c 2) ?_
  refine Run.swait 6 ?_
  refine Run.rwait 6 ?_
  exact Run.ret (h _)

theorem part19 {P : sProp 𝕄} (v2 v25 v559 v560 : BitVec 32) (v561 v562 : BitVec 1) (c0_i32_462 : BitVec 32) {Q : (PUnit) → sProp 𝕄}
    (h : ∀ r, At A B K c P ⟨4, 7, 0, 10, 7, 7⟩ ⊢ Q r) :
    Run A B K c P ⟨4, 6, 0, 10, 7, 7⟩ (k0_part19 aM w0 bM w1 oM w2 pM w3 bbM w4 (cM 0) w5 (cM 1) w6
      cc0_scratch4 cc0_scratch5 cc0_scratch6 cc0_scratch7 c v2 v25 v559 v560 v561 v562 c0_i32_462) Q := by
  rw [k0_part19_eq_skeleton]; unfold k0_part19_skel
  simp only [Prog.lift, Prog.bind_op, Prog.bind_ret, Prog.pure_eq_ret]
  refine Run.sum 6 (off11_eq c 1) ?_
  exact Run.ret (h _)

theorem part20 {P : sProp 𝕄} (v2 v14 : BitVec 32) {Q : (BitVec 32) → sProp 𝕄}
    (h : ∀ r, At A B K c P ⟨4, 7, 0, 11, 8, 8⟩ ⊢ Q r) :
    Run A B K c P ⟨4, 7, 0, 10, 7, 7⟩ (k0_part20 aM w0 bM w1 oM w2 pM w3 bbM w4 (cM 0) w5 (cM 1) w6
      cc0_scratch4 cc0_scratch5 cc0_scratch6 cc0_scratch7 c v2 v14) Q := by
  rw [k0_part20_eq_skeleton]; unfold k0_part20_skel
  simp only [Prog.lift, Prog.bind_op, Prog.bind_ret, Prog.pure_eq_ret]
  refine Run.copyP 10 (dev13_eq c) (off5_eq c 2) ?_
  refine Run.swait 7 ?_
  refine Run.rwait 7 ?_
  exact Run.ret (h _)

theorem part21 {P : sProp 𝕄} (v2 v14 v625 : BitVec 32) {Q : (Σ' (_ : BitVec 32) (_ : BitVec 32), BitVec 32) → sProp 𝕄}
    (h : ∀ r, At A B K c P ⟨4, 8, 0, 12, 8, 8⟩ ⊢ Q r) :
    Run A B K c P ⟨4, 7, 0, 11, 8, 8⟩ (k0_part21 aM w0 bM w1 oM w2 pM w3 bbM w4 (cM 0) w5 (cM 1) w6
      cc0_scratch4 cc0_scratch5 cc0_scratch6 cc0_scratch7 c v2 v14 v625) Q := by
  rw [k0_part21_eq_skeleton]; unfold k0_part21_skel
  simp only [Prog.lift, Prog.bind_op, Prog.bind_ret, Prog.pure_eq_ret]
  refine Run.sum 7 (off12_eq c 1) ?_
  refine Run.copyP 11 (dev14_eq c) (off6_eq c 2) ?_
  exact Run.ret (h _)

theorem part22 {P : sProp 𝕄} (v2 v25 v657 c4_i32_539 c0_i32_540 : BitVec 32) {Q : (Σ' (_ : BitVec 32) (_ : BitVec 32), BitVec 32) → sProp 𝕄}
    (h : ∀ r, At A B K c P ⟨4, 8, 0, 12, 9, 8⟩ ⊢ Q r) :
    Run A B K c P ⟨4, 8, 0, 12, 8, 8⟩ (k0_part22 aM w0 bM w1 oM w2 pM w3 bbM w4 (cM 0) w5 (cM 1) w6
      cc0_scratch4 cc0_scratch5 cc0_scratch6 cc0_scratch7 c v2 v25 v657 c4_i32_539 c0_i32_540) Q := by
  rw [k0_part22_eq_skeleton]; unfold k0_part22_skel
  simp only [Prog.lift, Prog.bind_op, Prog.bind_ret, Prog.pure_eq_ret]
  refine Run.swait 8 ?_
  exact Run.ret (h _)

theorem part23 {P : sProp 𝕄} (v2 v688 : BitVec 32) {Q : (PUnit) → sProp 𝕄}
    (h : ∀ r, At A B K c P ⟨4, 9, 0, 12, 9, 9⟩ ⊢ Q r) :
    Run A B K c P ⟨4, 8, 0, 12, 9, 8⟩ (k0_part23 aM w0 bM w1 oM w2 pM w3 bbM w4 (cM 0) w5 (cM 1) w6
      cc0_scratch4 cc0_scratch5 cc0_scratch6 cc0_scratch7 c v2 v688) Q := by
  rw [k0_part23_eq_skeleton]; unfold k0_part23_skel
  simp only [Prog.lift, Prog.bind_op, Prog.bind_ret, Prog.pure_eq_ret]
  refine Run.rwait 8 ?_
  refine Run.sum 8 (off9_eq c 2) ?_
  exact Run.ret (h _)

theorem part24 {P : sProp 𝕄} (v2 v14 : BitVec 32) {Q : (FVec F S256x1024 .bf16) → sProp 𝕄}
    (h : At A B K c P ⟨4, 9, 0, 12, 10, 10⟩ ⊢ Q (k0_pay16 (tileV A B 1 0 (pos 1 c 3) c) (slot4 (rval A B 9 c)))) :
    Run A B K c P ⟨4, 9, 0, 12, 9, 9⟩ (k0_part24 aM w0 bM w1 oM w2 pM w3 bbM w4 (cM 0) w5 (cM 1) w6
      cc0_scratch4 cc0_scratch5 cc0_scratch6 cc0_scratch7 c v2 v14) Q := by
  rw [k0_part24_eq_skeleton]; unfold k0_part24_skel
  simp only [Prog.lift, Prog.bind_op, Prog.bind_ret, Prog.pure_eq_ret]
  refine Run.swait 9 ?_
  refine Run.rwait 9 ?_
  refine Run.ldPart 13 (off10_eq c 2) ?_
  refine Run.ldLand 9 ?_
  refine Run.ldPart 13 (off10_eq c 2) ?_
  exact Run.ret h

end Cert.Ring
end
end
-- ==== Proof.Ring.Gather.lean ====
/-
# The program's parts, from the activation on

Parts 25 to 40: the whole sums go through the activation into the result, and the finished tiles go round the ring.
-/
module

public import proofs.«01_k».proof.Proof.Ring.Chunk

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → Vec F S2048x1024 .bf16} {B : Dev nD → Vec F S1024x2048 .bf16} {K : Dev nD × KIx → ℕ} {c : Dev nD}
variable {w0 : aM.IsWhole} {w1 : bM.IsWhole} {w2 : oM.IsWhole} {w3 : pM.IsWhole} {w4 : bbM.IsWhole} {w5 : (cM 0).IsWhole} {w6 : (cM 1).IsWhole}

theorem part25 {P : sProp 𝕄} (v2 v25 v668 : BitVec 32) {Q : (PUnit) → sProp 𝕄}
    (h : ∀ r, At A B K c P ⟨4, 10, 1, 12, 10, 10⟩ ⊢ Q r) :
    Run A B K c P ⟨4, 9, 0, 12, 10, 10⟩ (k0_part25 aM w0 bM w1 oM w2 pM w3 bbM w4 (cM 0) w5 (cM 1) w6
      cc0_scratch4 cc0_scratch5 cc0_scratch6 cc0_scratch7 c v2 v25 v668 (k0_pay16 (tileV A B 1 0 (pos 1 c 3) c) (slot4 (rval A B 9 c)))) Q := by
  rw [k0_part25_eq_skeleton]; unfold k0_part25_skel
  simp only [Prog.lift, Prog.bind_op, Prog.bind_ret, Prog.pure_eq_ret]
  refine Run.stSum 13 (off10_eq c 2) (acc_up 9 (by decide)) ?_
  refine Run.ldSum 12 (off13_eq c) ?_
  refine Run.ldHome 12 (off13_eq c) fun _ => ?_
  refine Run.stOut 12 (off13_eq c) rfl ?_
  exact Run.ret (h _)

theorem part26 {P : sProp 𝕄} (v2 v682 : BitVec 32) {Q : (PUnit) → sProp 𝕄}
    (h : ∀ r, At A B K c P ⟨4, 10, 2, 13, 10, 10⟩ ⊢ Q r) :
    Run A B K c P ⟨4, 10, 1, 12, 10, 10⟩ (k0_part26 aM w0 bM w1 oM w2 pM w3 bbM w4 (cM 0) w5 (cM 1) w6
      cc0_scratch4 cc0_scratch5 cc0_scratch6 cc0_scratch7 c v2 v682) Q := by
  rw [k0_part26_eq_skeleton]; unfold k0_part26_skel
  simp only [Prog.lift, Prog.bind_op, Prog.bind_ret, Prog.pure_eq_ret]
  refine Run.copyO 12 (dev15_eq c) (off14_eq c 0) ?_
  refine Run.ldSum 13 (off15_eq c) ?_
  refine Run.ldHome 13 (off15_eq c) fun _ => ?_
  refine Run.stOut 13 (off15_eq c) rfl ?_
  exact Run.ret (h _)

theorem part27 {P : sProp 𝕄} (v2 v14 v25 : BitVec 32) {Q : (Σ' (_ : BitVec 32) (_ : BitVec 32) (_ : BitVec 1), BitVec 32) → sProp 𝕄}
    (h : ∀ r, At A B K c P ⟨4, 10, 2, 14, 11, 11⟩ ⊢ Q r) :
    Run A B K c P ⟨4, 10, 2, 13, 10, 10⟩ (k0_part27 aM w0 bM w1 oM w2 pM w3 bbM w4 (cM 0) w5 (cM 1) w6
      cc0_scratch4 cc0_scratch5 cc0_scratch6 cc0_scratch7 c v2 v14 v25) Q := by
  rw [k0_part27_eq_skeleton]; unfold k0_part27_skel
  simp only [Prog.lift, Prog.bind_op, Prog.bind_ret, Prog.pure_eq_ret]
  refine Run.copyO 13 (dev16_eq c) (off16_eq c 0) ?_
  refine Run.swait 10 ?_
  refine Run.rwait 10 ?_
  exact Run.ret (h _)

theorem part28 {P : sProp 𝕄} (v2 v14 v852 v853 : BitVec 32) (v854 : BitVec 1) (c0_i32_690 : BitVec 32) {Q : (BitVec 32) → sProp 𝕄}
    (h : ∀ r, At A B K c P ⟨4, 11, 2, 14, 12, 12⟩ ⊢ Q r) :
    Run A B K c P ⟨4, 10, 2, 14, 11, 11⟩ (k0_part28 aM w0 bM w1 oM w2 pM w3 bbM w4 (cM 0) w5 (cM 1) w6
      cc0_scratch4 cc0_scratch5 cc0_scratch6 cc0_scratch7 c v2 v14 v852 v853 v854 c0_i32_690) Q := by
  rw [k0_part28_eq_skeleton]; unfold k0_part28_skel
  simp only [Prog.lift, Prog.bind_op, Prog.bind_ret, Prog.pure_eq_ret]
  refine Run.sum 10 (off11_eq c 2) ?_
  refine Run.swait 11 ?_
  refine Run.rwait 11 ?_
  exact Run.ret (h _)

theorem part29 {P : sProp 𝕄} (v668 v884 : BitVec 32) {Q : (FVec F S256x1024 .bf16) → sProp 𝕄}
    (h : At A B K c P ⟨4, 12, 2, 14, 12, 12⟩ ⊢ Q (k0_pay22 (acc A B 0 1 3 c))) :
    Run A B K c P ⟨4, 11, 2, 14, 12, 12⟩ (k0_part29 aM w0 bM w1 oM w2 pM w3 bbM w4 (cM 0) w5 (cM 1) w6
      cc0_scratch4 cc0_scratch5 cc0_scratch6 cc0_scratch7 c v668 v884) Q := by
  rw [k0_part29_eq_skeleton]; unfold k0_part29_skel
  simp only [Prog.lift, Prog.bind_op, Prog.bind_ret, Prog.pure_eq_ret]
  refine Run.sum 11 (off12_eq c 2) ?_
  refine Run.ldSum 14 (off17_eq c) ?_
  exact Run.ret h

theorem part30 {P : sProp 𝕄} (v2 v25 v682 : BitVec 32) {Q : (Σ' (_ : FVec F S256x1024 .f32) (_ : FVec F S256x1024 .f32), FVec F S256x1024 .f32) → sProp 𝕄}
    (h : At A B K c P ⟨4, 12, 3, 15, 12, 12⟩ ⊢ Q ⟨k0_pay24 (acc A B 1 1 3 c), k0_pay25 (acc A B 1 1 3 c), k0_pay26⟩) :
    Run A B K c P ⟨4, 12, 2, 14, 12, 12⟩ (k0_part30 aM w0 bM w1 oM w2 pM w3 bbM w4 (cM 0) w5 (cM 1) w6
      cc0_scratch4 cc0_scratch5 cc0_scratch6 cc0_scratch7 c v2 v25 v682 (k0_pay22 (acc A B 0 1 3 c))) Q := by
  rw [k0_part30_eq_skeleton]; unfold k0_part30_skel
  simp only [Prog.lift, Prog.bind_op, Prog.bind_ret, Prog.pure_eq_ret]
  refine Run.ldHome 14 (off17_eq c) fun _ => ?_
  refine Run.stOut 14 (off17_eq c) rfl ?_
  refine Run.copyO 14 (dev17_eq c) (off18_eq c 0) ?_
  refine Run.ldSum 15 (off19_eq c) ?_
  exact Run.ret h

theorem part31 {P : sProp 𝕄} (v2 v14 v682 : BitVec 32) {Q : (PUnit) → sProp 𝕄}
    (h : ∀ r, At A B K c P ⟨4, 12, 4, 16, 13, 12⟩ ⊢ Q r) :
    Run A B K c P ⟨4, 12, 3, 15, 12, 12⟩ (k0_part31 aM w0 bM w1 oM w2 pM w3 bbM w4 (cM 0) w5 (cM 1) w6
      cc0_scratch4 cc0_scratch5 cc0_scratch6 cc0_scratch7 c v2 v14 v682 (k0_pay24 (acc A B 1 1 3 c)) (k0_pay25 (acc A B 1 1 3 c)) (k0_pay26)) Q := by
  rw [k0_part31_eq_skeleton]; unfold k0_part31_skel
  simp only [Prog.lift, Prog.bind_op, Prog.bind_ret, Prog.pure_eq_ret]
  refine Run.ldHome 15 (off19_eq c) fun _ => ?_
  refine Run.stOut 15 (off19_eq c) rfl ?_
  refine Run.copyO 15 (dev18_eq c) (off20_eq c 0) ?_
  refine Run.swait 12 ?_
  exact Run.ret (h _)

theorem part32 {P : sProp 𝕄} (v2 v25 : BitVec 32) {Q : (PUnit) → sProp 𝕄}
    (h : ∀ r, At A B K c P ⟨4, 12, 4, 17, 14, 13⟩ ⊢ Q r) :
    Run A B K c P ⟨4, 12, 4, 16, 13, 12⟩ (k0_part32 aM w0 bM w1 oM w2 pM w3 bbM w4 (cM 0) w5 (cM 1) w6
      cc0_scratch4 cc0_scratch5 cc0_scratch6 cc0_scratch7 c v2 v25) Q := by
  rw [k0_part32_eq_skeleton]; unfold k0_part32_skel
  simp only [Prog.lift, Prog.bind_op, Prog.bind_ret, Prog.pure_eq_ret]
  refine Run.rwaitPass 12 ?_
  refine Run.copyO 16 (dev19_eq c) (off14_eq c 1) ?_
  refine Run.swait 13 ?_
  exact Run.ret (h _)

theorem part33 {P : sProp 𝕄} (v2 v14 : BitVec 32) {Q : (PUnit) → sProp 𝕄}
    (h : ∀ r, At A B K c P ⟨4, 12, 4, 18, 14, 14⟩ ⊢ Q r) :
    Run A B K c P ⟨4, 12, 4, 17, 14, 13⟩ (k0_part33 aM w0 bM w1 oM w2 pM w3 bbM w4 (cM 0) w5 (cM 1) w6
      cc0_scratch4 cc0_scratch5 cc0_scratch6 cc0_scratch7 c v2 v14) Q := by
  rw [k0_part33_eq_skeleton]; unfold k0_part33_skel
  simp only [Prog.lift, Prog.bind_op, Prog.bind_ret, Prog.pure_eq_ret]
  refine Run.rwaitPass 13 ?_
  refine Run.copyO 17 (dev20_eq c) (off16_eq c 1) ?_
  exact Run.ret (h _)

theorem part34 {P : sProp 𝕄} (v2 v25 : BitVec 32) {Q : (PUnit) → sProp 𝕄}
    (h : ∀ r, At A B K c P ⟨4, 12, 4, 19, 15, 15⟩ ⊢ Q r) :
    Run A B K c P ⟨4, 12, 4, 18, 14, 14⟩ (k0_part34 aM w0 bM w1 oM w2 pM w3 bbM w4 (cM 0) w5 (cM 1) w6
      cc0_scratch4 cc0_scratch5 cc0_scratch6 cc0_scratch7 c v2 v25) Q := by
  rw [k0_part34_eq_skeleton]; unfold k0_part34_skel
  simp only [Prog.lift, Prog.bind_op, Prog.bind_ret, Prog.pure_eq_ret]
  refine Run.swait 14 ?_
  refine Run.rwaitPass 14 ?_
  refine Run.copyO 18 (dev21_eq c) (off18_eq c 1) ?_
  exact Run.ret (h _)

theorem part35 {P : sProp 𝕄} (v2 v14 : BitVec 32) {Q : (PUnit) → sProp 𝕄}
    (h : ∀ r, At A B K c P ⟨4, 12, 4, 20, 16, 16⟩ ⊢ Q r) :
    Run A B K c P ⟨4, 12, 4, 19, 15, 15⟩ (k0_part35 aM w0 bM w1 oM w2 pM w3 bbM w4 (cM 0) w5 (cM 1) w6
      cc0_scratch4 cc0_scratch5 cc0_scratch6 cc0_scratch7 c v2 v14) Q := by
  rw [k0_part35_eq_skeleton]; unfold k0_part35_skel
  simp only [Prog.lift, Prog.bind_op, Prog.bind_ret, Prog.pure_eq_ret]
  refine Run.swait 15 ?_
  refine Run.rwaitPass 15 ?_
  refine Run.copyO 19 (dev22_eq c) (off20_eq c 1) ?_
  exact Run.ret (h _)

theorem part36 {P : sProp 𝕄} (v2 v25 : BitVec 32) {Q : (PUnit) → sProp 𝕄}
    (h : ∀ r, At A B K c P ⟨4, 12, 4, 20, 17, 17⟩ ⊢ Q r) :
    Run A B K c P ⟨4, 12, 4, 20, 16, 16⟩ (k0_part36 aM w0 bM w1 oM w2 pM w3 bbM w4 (cM 0) w5 (cM 1) w6
      cc0_scratch4 cc0_scratch5 cc0_scratch6 cc0_scratch7 c v2 v25) Q := by
  rw [k0_part36_eq_skeleton]; unfold k0_part36_skel
  simp only [Prog.lift, Prog.bind_op, Prog.bind_ret, Prog.pure_eq_ret]
  refine Run.swait 16 ?_
  refine Run.rwaitPass 16 ?_
  exact Run.ret (h _)

theorem part37 {P : sProp 𝕄} (v2 v14 : BitVec 32) {Q : (PUnit) → sProp 𝕄}
    (h : ∀ r, At A B K c P ⟨4, 12, 4, 21, 18, 18⟩ ⊢ Q r) :
    Run A B K c P ⟨4, 12, 4, 20, 17, 17⟩ (k0_part37 aM w0 bM w1 oM w2 pM w3 bbM w4 (cM 0) w5 (cM 1) w6
      cc0_scratch4 cc0_scratch5 cc0_scratch6 cc0_scratch7 c v2 v14) Q := by
  rw [k0_part37_eq_skeleton]; unfold k0_part37_skel
  simp only [Prog.lift, Prog.bind_op, Prog.bind_ret, Prog.pure_eq_ret]
  refine Run.copyO 20 (dev23_eq c) (off14_eq c 2) ?_
  refine Run.swait 17 ?_
  refine Run.rwaitPass 17 ?_
  exact Run.ret (h _)

theorem part38 {P : sProp 𝕄} (v2 v25 : BitVec 32) {Q : (PUnit) → sProp 𝕄}
    (h : ∀ r, At A B K c P ⟨4, 12, 4, 22, 19, 19⟩ ⊢ Q r) :
    Run A B K c P ⟨4, 12, 4, 21, 18, 18⟩ (k0_part38 aM w0 bM w1 oM w2 pM w3 bbM w4 (cM 0) w5 (cM 1) w6
      cc0_scratch4 cc0_scratch5 cc0_scratch6 cc0_scratch7 c v2 v25) Q := by
  rw [k0_part38_eq_skeleton]; unfold k0_part38_skel
  simp only [Prog.lift, Prog.bind_op, Prog.bind_ret, Prog.pure_eq_ret]
  refine Run.copyO 21 (dev24_eq c) (off16_eq c 2) ?_
  refine Run.swait 18 ?_
  refine Run.rwaitPass 18 ?_
  exact Run.ret (h _)

theorem part39 {P : sProp 𝕄} (v2 v14 : BitVec 32) {Q : (BitVec 32) → sProp 𝕄}
    (h : ∀ r, At A B K c P ⟨4, 12, 4, 23, 20, 20⟩ ⊢ Q r) :
    Run A B K c P ⟨4, 12, 4, 22, 19, 19⟩ (k0_part39 aM w0 bM w1 oM w2 pM w3 bbM w4 (cM 0) w5 (cM 1) w6
      cc0_scratch4 cc0_scratch5 cc0_scratch6 cc0_scratch7 c v2 v14) Q := by
  rw [k0_part39_eq_skeleton]; unfold k0_part39_skel
  simp only [Prog.lift, Prog.bind_op, Prog.bind_ret, Prog.pure_eq_ret]
  refine Run.copyO 22 (dev25_eq c) (off18_eq c 2) ?_
  refine Run.swait 19 ?_
  refine Run.rwaitPass 19 ?_
  exact Run.ret (h _)

theorem part40 {P : sProp 𝕄} (v14 v25 c1_i32_989 : BitVec 32) {Q : (PUnit) → sProp 𝕄}
    (h : ∀ r, At A B K c P ⟨4, 12, 4, 24, 22, 22⟩ ⊢ Q r) :
    Run A B K c P ⟨4, 12, 4, 23, 20, 20⟩ (k0_part40 aM w0 bM w1 oM w2 pM w3 bbM w4 (cM 0) w5 (cM 1) w6
      cc0_scratch4 cc0_scratch5 cc0_scratch6 cc0_scratch7 c v14 v25 c1_i32_989) Q := by
  rw [k0_part40_eq_skeleton]; unfold k0_part40_skel
  simp only [Prog.lift, Prog.bind_op, Prog.bind_ret, Prog.pure_eq_ret]
  refine Run.copyO 23 (dev26_eq c) (off20_eq c 2) ?_
  refine Run.swait 20 ?_
  refine Run.rwait 20 ?_
  refine Run.swait 21 ?_
  refine Run.rwait 21 ?_
  exact Run.ret (h _)

end Cert.Ring
end
end
-- ==== Proof.Ring.Program.lean ====
/-
# The whole program

The parts in order: from what a device holds at its start to all copies being done.
-/
module

public import proofs.«01_k».proof.Proof.Ring.Start
public import proofs.«01_k».proof.Proof.Ring.Reduce
public import proofs.«01_k».proof.Proof.Ring.Gather

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {A : Dev nD → Vec F S2048x1024 .bf16} {B : Dev nD → Vec F S1024x2048 .bf16} {K : Dev nD × KIx → ℕ} {c : Dev nD}
variable {w0 : aM.IsWhole} {w1 : bM.IsWhole} {w2 : oM.IsWhole} {w3 : pM.IsWhole} {w4 : bbM.IsWhole} {w5 : (cM 0).IsWhole} {w6 : (cM 1).IsWhole}

/-- What a device holds at its start, sorted. -/
def Begin (A : Dev nD → Vec F S2048x1024 .bf16) (B : Dev nD → Vec F S1024x2048 .bf16) (K : Dev nD × KIx → ℕ) (c : Dev nD) : sProp 𝕄 :=
  iprop(((own c aM (A c) ∗ own c bM (B c)) ∗ ownE c bbM) ∗ (recs A B K ∗ Pre c)
    ∗ ownE c (chP (pos 1 c 0)) ∗ ownE c (chP (pos 1 c 1)) ∗ ownE c (chP (pos 1 c 3)) ∗ ownE c (chP (pos 1 c 2)))

set_option maxRecDepth 65536 in
theorem part41 {Q : (Σ' (_ : Dev nD), BitVec 32) → sProp 𝕄}
    (h : ∀ x, At A B K c iprop(blocks A B c ∗ semVal (barCell c) 0) ⟨4, 12, 4, 24, 23, 22⟩ ⊢ Q ⟨c, x⟩) :
    Begin A B K c ⊢ WP c (k0_part41 aM w0 bM w1 oM w2 pM w3 bbM w4 (cM 0) w5 (cM 1) w6
      cc0_scratch4 cc0_scratch5 cc0_scratch6 cc0_scratch7) Q := by
  rw [k0_part41_eq_skeleton]; unfold k0_part41_skel
  unfold Begin WP
  rw [wp_bind]
  refine part1 fun _ _ _ => ?_
  dsimp only
  rw [wp_bind]
  have e : iprop(blocks A B c ∗ (recs A B K ∗ Pre c)
      ∗ ownE c (chP (pos 1 c 0)) ∗ ownE c (chP (pos 1 c 1)) ∗ ownE c (chP (pos 1 c 3)) ∗ ownE c (chP (pos 1 c 2)))
      ⊢ (iprop((recs A B K ∗ Pre c) ∗ blocks A B c ∗ ownE c (chP (pos 1 c 0))
        ∗ ownE c (chP (pos 1 c 1)) ∗ ownE c (chP (pos 1 c 3)) ∗ ownE c (chP (pos 1 c 2))) : sProp 𝕄) := by
    iintro ⟨Hb, Hr, H⟩
    isplitl [Hr]; · iexact Hr
    isplitl [Hb] <;> iassumption
  refine e.trans (part2 _ _ fun _ => ?_)
  have e' : At A B K c iprop(blocks A B c ∗ semVal (barCell c) 0 ∗ ownE c (chP (pos 1 c 1)) ∗ ownE c (chP (pos 1 c 3)) ∗ ownE c (chP (pos 1 c 2))) ⟨1, 0, 0, 0, 0, 0⟩
      ⊢ At A B K c iprop(blocks A B c ∗ ownE c (chP (pos 1 c 1)) ∗ ownE c (chP (pos 1 c 3)) ∗ ownE c (chP (pos 1 c 2)) ∗ semVal (barCell c) 0) ⟨1, 0, 0, 0, 0, 0⟩ := by
    unfold At
    refine sep_mono_right ?_
    iintro ⟨Hb, Hz, H1, H2, H3⟩
    isplitl [Hb]; · iexact Hb
    isplitl [H1]; · iexact H1
    isplitl [H2]; · iexact H2
    isplitl [H3] <;> iassumption
  refine e'.trans ?_
  refine Run.bind (part3 _ _ (fun ⟨_, _⟩ => ?_))
  refine Run.bind (part4 _ _ _ _ _ (fun ⟨_, _⟩ => ?_))
  refine Run.bind (part5 _ _ _ (fun ⟨_, _, _, _⟩ => ?_))
  refine Run.bind (part6 _ _ _ _ _ (fun _ => ?_))
  refine Run.bind (part7 _ _ (fun _ => ?_))
  refine Run.bind (part8 _ _ _ (fun _ => ?_))
  refine Run.bind (part9 _ _ (fun _ => ?_))
  refine Run.bind (part10 _ _ _ (fun _ => ?_))
  refine Run.bind (part11 _ _ (fun ⟨_, _⟩ => ?_))
  refine Run.bind (part12 _ _ _ _ (fun _ => ?_))
  refine Run.bind (part13 _ (fun ⟨_, _, _, _, _⟩ => ?_))
  refine Run.bind (part14 _ _ _ _ _ _ _ (fun _ => ?_))
  refine Run.bind (part15 _ _ (fun ⟨_, _⟩ => ?_))
  refine Run.bind (part16 _ _ _ _ _ (fun ⟨_, _⟩ => ?_))
  refine Run.bind (part17 _ _ _ _ (fun ⟨_, _⟩ => ?_))
  refine Run.bind (part18 _ _ _ _ (fun ⟨_, _, _, _, _⟩ => ?_))
  refine Run.bind (part19 _ _ _ _ _ _ _ (fun _ => ?_))
  refine Run.bind (part20 _ _ (fun _ => ?_))
  refine Run.bind (part21 _ _ _ (fun ⟨_, _, _⟩ => ?_))
  refine Run.bind (part22 _ _ _ _ _ (fun ⟨_, _, _⟩ => ?_))
  refine Run.bind (part23 _ _ (fun _ => ?_))
  refine Run.bind (part24 _ _ ?_)
  refine Run.bind (part25 _ _ _ (fun _ => ?_))
  refine Run.bind (part26 _ _ (fun _ => ?_))
  refine Run.bind (part27 _ _ _ (fun ⟨_, _, _, _⟩ => ?_))
  refine Run.bind (part28 _ _ _ _ _ _ (fun _ => ?_))
  refine Run.bind (part29 _ _ ?_)
  refine Run.bind (part30 _ _ _ ?_)
  refine Run.bind (part31 _ _ _ (fun _ => ?_))
  refine Run.bind (part32 _ _ (fun _ => ?_))
  refine Run.bind (part33 _ _ (fun _ => ?_))
  refine Run.bind (part34 _ _ (fun _ => ?_))
  refine Run.bind (part35 _ _ (fun _ => ?_))
  refine Run.bind (part36 _ _ (fun _ => ?_))
  refine Run.bind (part37 _ _ (fun _ => ?_))
  refine Run.bind (part38 _ _ (fun _ => ?_))
  refine Run.bind (part39 _ _ (fun _ => ?_))
  refine Run.bind (part40 _ _ _ (fun _ => ?_))
  simp only [Prog.lift, Prog.bind_op, Prog.bind_ret, Prog.pure_eq_ret]
  refine Run.swait 22 ?_
  exact Run.ret (h _)

set_option maxRecDepth 65536 in
/-- The program, from its start to its end. -/
theorem run_body {Q : PUnit → sProp 𝕄}
    (h : At A B K c iprop(blocks A B c ∗ semVal (barCell c) 0) ⟨4, 12, 4, 24, 24, 24⟩ ⊢ Q ⟨⟩) :
    Begin A B K c ⊢ WP c (cc0_body aM w0 bM w1 oM w2 pM w3 bbM w4 (cM 0) w5 (cM 1) w6
      cc0_scratch4 cc0_scratch5 cc0_scratch6 cc0_scratch7) Q := by
  rw [cc0_body_eq_skeleton]; unfold cc0_body_skel WP
  rw [wp_bind]
  refine part41 fun _ => ?_
  simp only [Prog.lift, Prog.bind_op, Prog.bind_ret, Prog.pure_eq_ret]
  refine Run.rwait 22 ?_
  refine Run.swait 23 ?_
  refine Run.rwait 23 ?_
  exact Run.ret h

end Cert.Ring
end
end
-- ==== Proof.Ring.Ends.lean ====
/-
# Both ends

At its start a device splits its buffers into the tiles the copies write and those it keeps; at its end it joins them again,
the result's from the finished tiles. The copies are sorted by hop, and within a hop by direction and half.
-/
module

public import proofs.«01_k».proof.Proof.Ring.Program

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Sorting -/

/-- One thing for each direction and half. -/
def quad (Φ : Fin 2 → Fin 2 → sProp 𝕄) : sProp 𝕄 := bigSep Finset.univ fun x : Fin 2 × Fin 2 => Φ x.1 x.2

theorem quad_congr {Φ Ψ : Fin 2 → Fin 2 → sProp 𝕄} (h : ∀ d p, Φ d p = Ψ d p) : quad Φ = quad Ψ :=
  bigSep_congr fun x _ => h x.1 x.2
theorem quad_mono {Φ Ψ : Fin 2 → Fin 2 → sProp 𝕄} (h : ∀ d p, Φ d p ⊢ Ψ d p) : quad Φ ⊢ quad Ψ :=
  bigSep_mono fun x _ => h x.1 x.2
theorem quad_sep (Φ Ψ : Fin 2 → Fin 2 → sProp 𝕄) : quad (fun d p => iprop(Φ d p ∗ Ψ d p)) = iprop(quad Φ ∗ quad Ψ) :=
  bigSep_sep' _ _ _

/-- The copy of hop `k` in direction `d`, half `p`. -/
def num (k : Fin 6) (d p : Fin 2) : Fin 24 := ⟨4 * k.val + 2 * p.val + d.val, by omega⟩
theorem num_val (k : Fin 6) (d p : Fin 2) : (num k d p).val = 4 * k.val + 2 * p.val + d.val := rfl
theorem num_at : ∀ (k : Fin 6) (d p : Fin 2), kd (num k d p) = d ∧ kp (num k d p) = p ∧ kk (num k d p) = k.val := by decide
theorem hop_num : ∀ (k : Fin 6) (hk : k.val < 3) (d p : Fin 2), hop (num k d p) = ⟨k.val, hk⟩ := by decide
theorem kk_lt : ∀ i : Fin 24, kk i < 6 := by decide

def numE : Fin 6 × (Fin 2 × Fin 2) ≃ Fin 24 where
  toFun x := num x.1 x.2.1 x.2.2
  invFun i := (⟨kk i, kk_lt i⟩, (kd i, kp i))
  left_inv x := by revert x; decide
  right_inv i := by revert i; decide

theorem six (Φ : Fin 24 → sProp 𝕄) : bigSep Finset.univ Φ
    = iprop(quad (fun d p => Φ (num 0 d p)) ∗ quad (fun d p => Φ (num 1 d p)) ∗ quad (fun d p => Φ (num 2 d p))
      ∗ quad (fun d p => Φ (num 3 d p)) ∗ quad (fun d p => Φ (num 4 d p)) ∗ quad (fun d p => Φ (num 5 d p))) := by
  rw [bigSep_univ_equiv numE Φ, bigSep_univ_prod, bigSep_univ_eq_bigSepL [0, 1, 2, 3, 4, 5] (by decide) (by decide)]
  rfl

/-- The row chunks in the order in which a device handles them. -/
def posE (d : Fin 2) (c : Dev nD) : Fin 4 ≃ Fin 4 :=
  Equiv.ofBijective (fun j => pos d c j.val) ((Finite.injective_iff_bijective).mp (by revert d c; decide))

theorem four (c : Dev nD) (Φ : Fin 2 → Fin 2 → Fin 4 → sProp 𝕄) : (bigSep Finset.univ fun t : TIx => Φ t.1 t.2.1 t.2.2)
    = iprop(quad (fun d p => Φ d p (pos d c 0)) ∗ quad (fun d p => Φ d p (pos d c 1)) ∗ quad (fun d p => Φ d p (pos d c 2)) ∗ quad (fun d p => Φ d p (pos d c 3))) := by
  have h : ∀ d p, (bigSep Finset.univ fun r => Φ d p r) = iprop(Φ d p (pos d c 0) ∗ Φ d p (pos d c 1) ∗ Φ d p (pos d c 2) ∗ Φ d p (pos d c 3)) := fun d p => by
    rw [bigSep_univ_equiv (posE d c) (fun r => Φ d p r), bigSep_univ_eq_bigSepL [0, 1, 2, 3] (by decide) (by decide)]
    rfl
  rw [← quad_sep, ← quad_sep, ← quad_sep, ← quad_congr h]
  unfold quad
  rw [bigSep_univ_prod, bigSep_univ_prod]
  exact bigSep_congr fun d _ => bigSep_univ_prod _

theorem three (Φ : Fin 2 → Fin 2 → Fin 3 → sProp 𝕄) :
    iprop((bigSep Finset.univ fun t : Fin 2 × Fin 3 => Φ 0 t.1 t.2) ∗ (bigSep Finset.univ fun t : Fin 2 × Fin 3 => Φ 1 t.1 t.2))
    = iprop(quad (fun d p => Φ d p 0) ∗ quad (fun d p => Φ d p 1) ∗ quad (fun d p => Φ d p 2)) := by
  have h : ∀ d p, (bigSep Finset.univ fun k => Φ d p k) = iprop(Φ d p 0 ∗ Φ d p 1 ∗ Φ d p 2) := fun d p => by
    rw [bigSep_univ_eq_bigSepL [0, 1, 2] (by decide) (by decide)]; rfl
  rw [← quad_sep, ← quad_sep, ← quad_congr h]
  unfold quad
  rw [bigSep_univ_prod (fun x : Fin 2 × Fin 2 => bigSep Finset.univ fun k => Φ x.1 x.2 k), bigSep_fin_two, bigSep_univ_prod, bigSep_univ_prod]
  rfl

theorem quad_emp {Φ : Fin 2 → Fin 2 → sProp 𝕄} (h : ∀ d p, Φ d p = iprop(emp)) : (iprop(emp) : sProp 𝕄) ⊢ quad Φ := by
  rw [quad_congr h]; exact Entails.of_eq (bigSep_emp_const _).symm

/-! ## The start -/

theorem gifts_eq (c : Dev nD) : iprop(gift (F := F) 0 c ∗ gift 1 c) = bigSep Finset.univ fun i : Fin 24 => ownE (F := F) c (dstT i c) := by
  rw [bigSep_keys]; rfl

theorem dst_low (c : Dev nD) (k : Fin 6) (hk : k.val < 3) (d p : Fin 2) : dstT (num k d p) c = tC d p ⟨k.val, hk⟩ := by
  unfold dstT
  rw [if_pos (by rw [num_val]; omega), hop_num k hk, (num_at _ d p).1, (num_at _ d p).2.1]
theorem dst_high (c : Dev nD) (k : Fin 6) (hk : 3 ≤ k.val) (d p : Fin 2) : dstT (num k d p) c = tO d p (pos d c (k.val + 1)) := by
  unfold dstT
  rw [if_neg (by rw [num_val]; omega), (num_at k d p).1, (num_at k d p).2.1, (num_at k d p).2.2]
theorem src_low (c : Dev nD) (k : Fin 6) (hk : k.val < 3) (d p : Fin 2) : srcT (num k d p) c = tP d p (pos d c k.val) := by
  unfold srcT
  rw [if_pos (by rw [num_val]; omega), (num_at k d p).1, (num_at k d p).2.1, (num_at k d p).2.2]
theorem src_high (c : Dev nD) (k : Fin 6) (hk : 3 ≤ k.val) (d p : Fin 2) : srcT (num k d p) c = tO d p (pos d c k.val) := by
  unfold srcT
  rw [if_neg (by rw [num_val]; omega), (num_at k d p).1, (num_at k d p).2.1, (num_at k d p).2.2]

theorem pos_4 (d : Fin 2) (c : Dev nD) : pos d c 4 = pos d c 0 := (pos_mod d c 4).symm
theorem pos_5 (d : Fin 2) (c : Dev nD) : pos d c 5 = pos d c 1 := (pos_mod d c 5).symm
theorem pos_6 (d : Fin 2) (c : Dev nD) : pos d c 6 = pos d c 2 := (pos_mod d c 6).symm

theorem home_num (c : Dev nD) (k : Fin 6) (hk : k.val ≠ 3) (d p : Fin 2) : home (F := F) (num k d p) c = iprop(emp) :=
  if_neg (by rw [num_val]; omega)
theorem home_3 (c : Dev nD) (d p : Fin 2) : home (F := F) (num 3 d p) c = ownE c (tO d p (pos d c 3)) := by
  unfold home
  rw [if_pos (by revert d p; decide), (num_at 3 d p).1, (num_at 3 d p).2.1]
theorem back_num (c : Dev nD) (k : Fin 6) (hk : k.val ≠ 3) (d p : Fin 2) : back (F := F) (num k d p) c = iprop(emp) :=
  if_neg (by rw [num_val]; omega)
theorem back_3 (c : Dev nD) (d p : Fin 2) : back (F := F) (num 3 d p) c = ownE c (tP d p (pos d c 3)) := by
  unfold back
  rw [if_pos (by revert d p; decide), (num_at 3 d p).1, (num_at 3 d p).2.1]

theorem homes (c : Dev nD) : quad (fun d p => ownE (F := F) c (tO d p (pos d c 3))) ⊢ bigSep Finset.univ fun i : Fin 24 => home (F := F) i c := by
  rw [six, quad_congr (home_3 c)]
  iintro H
  isplitl []; · iapply (quad_emp (home_num (F := F) c 0 (by decide))); iempintro
  isplitl []; · iapply (quad_emp (home_num (F := F) c 1 (by decide))); iempintro
  isplitl []; · iapply (quad_emp (home_num (F := F) c 2 (by decide))); iempintro
  isplitl [H]; · iexact H
  isplitl []; · iapply (quad_emp (home_num (F := F) c 4 (by decide))); iempintro
  iapply (quad_emp (home_num (F := F) c 5 (by decide))); iempintro

theorem split_all (c : Dev nD) : iprop(ownE c oM ∗ ownE c (cM 0) ∗ ownE c (cM 1))
    ⊢ (iprop((gift 0 c ∗ gift 1 c) ∗ bigSep Finset.univ fun i : Fin 24 => home i c) : sProp 𝕄) := by
  have h0 : (iprop(ownE c (cM 0) ∗ ownE c (cM 1)) : sProp 𝕄) ⊢ iprop(quad (fun d p => ownE (F := F) c (tC d p 0))
      ∗ quad (fun d p => ownE (F := F) c (tC d p 1)) ∗ quad (fun d p => ownE (F := F) c (tC d p 2))) := by
    rw [← three (fun d p k => ownE (F := F) c (tC d p k))]
    exact (sep_mono_left (split_land c 0)).trans (sep_mono_right (split_land c 1))
  have h1 : (ownE c oM : sProp 𝕄) ⊢ iprop(quad (fun d p => ownE (F := F) c (tO d p (pos d c 0))) ∗ quad (fun d p => ownE (F := F) c (tO d p (pos d c 1)))
      ∗ quad (fun d p => ownE (F := F) c (tO d p (pos d c 2))) ∗ quad (fun d p => ownE (F := F) c (tO d p (pos d c 3)))) := by
    rw [← four c (fun d p r => ownE (F := F) c (tO d p r))]
    exact split_out c
  have g0 : quad (fun d p => ownE (F := F) c (dstT (num 0 d p) c)) = quad (fun d p => ownE (F := F) c (tC d p 0)) := quad_congr fun d p => by rw [dst_low c 0 (by decide) d p]; rfl
  have g1 : quad (fun d p => ownE (F := F) c (dstT (num 1 d p) c)) = quad (fun d p => ownE (F := F) c (tC d p 1)) := quad_congr fun d p => by rw [dst_low c 1 (by decide) d p]; rfl
  have g2 : quad (fun d p => ownE (F := F) c (dstT (num 2 d p) c)) = quad (fun d p => ownE (F := F) c (tC d p 2)) := quad_congr fun d p => by rw [dst_low c 2 (by decide) d p]; rfl
  have g3 : quad (fun d p => ownE (F := F) c (dstT (num 3 d p) c)) = quad (fun d p => ownE (F := F) c (tO d p (pos d c 0))) := quad_congr fun d p => by
    rw [dst_high c 3 (by decide) d p]; rw [← pos_4]; rfl
  have g4 : quad (fun d p => ownE (F := F) c (dstT (num 4 d p) c)) = quad (fun d p => ownE (F := F) c (tO d p (pos d c 1))) := quad_congr fun d p => by
    rw [dst_high c 4 (by decide) d p]; rw [← pos_5]; rfl
  have g5 : quad (fun d p => ownE (F := F) c (dstT (num 5 d p) c)) = quad (fun d p => ownE (F := F) c (tO d p (pos d c 2))) := quad_congr fun d p => by
    rw [dst_high c 5 (by decide) d p]; rw [← pos_6]; rfl
  rw [gifts_eq, six, g0, g1, g2, g3, g4, g5]
  iintro ⟨Ho, Hc⟩
  ihave Hc := h0 $$ Hc
  ihave Ho := h1 $$ Ho
  icases Hc with ⟨C0, C1, C2⟩
  icases Ho with ⟨O0, O1, O2, O3⟩
  isplitr [O3]
  · isplitl [C0]; · iexact C0
    isplitl [C1]; · iexact C1
    isplitl [C2]; · iexact C2
    isplitl [O0]; · iexact O0
    isplitl [O1] <;> iassumption
  iapply (homes c); iexact O3

theorem split_chunks (c : Dev nD) : (ownE c pM : sProp 𝕄) ⊢ iprop(ownE c (chP (pos 1 c 0)) ∗ ownE c (chP (pos 1 c 1)) ∗ ownE c (chP (pos 1 c 3)) ∗ ownE c (chP (pos 1 c 2))) := by
  refine (split_pbuf c).trans ?_
  rw [bigSep_univ_equiv (posE 1 c) (fun r => ownE (F := F) c (chP r)), bigSep_univ_eq_bigSepL [0, 1, 3, 2] (by decide) (by decide)]
  exact entails_refl _

/-! ## The end -/

variable (A : Dev nD → Vec F S2048x1024 .bf16) (B : Dev nD → Vec F S1024x2048 .bf16)

/-- The place of an element within its tile. -/
def inTile (i : S2048x2048.Idx) : S256x1024.Idx := fun a => match a with
  | ⟨0, _⟩ => ⟨(i (0 : Fin 2)).val % 256, Nat.mod_lt _ (by decide)⟩
  | ⟨1, _⟩ => ⟨(i (1 : Fin 2)).val % 1024, Nat.mod_lt _ (by decide)⟩

/-- The result: every element from its tile. -/
def outX : Vec F S2048x2048 .bf16 := fun i => outV A B (tileOf i).1 (tileOf i).2.1 (tileOf i).2.2 (inTile i)

theorem outX_tile (t : TIx) (j : S256x1024.Idx) : outX A B ((tileAt t).emb j) = outV A B t.1 t.2.1 t.2.2 j := by
  obtain ⟨d, p, r⟩ := t
  have h0 : (j (0 : Fin 2)).val < 256 := (j (0 : Fin 2)).isLt
  have h1 : (j (1 : Fin 2)).val < 1024 := (j (1 : Fin 2)).isLt
  have e0 : ((tileAt (d, p, r)).emb j (0 : Fin 2)).val = 512 * r.val + 256 * d.val + (j (0 : Fin 2)).val := by
    show 512 * r.val + 256 * d.val + 1 * (j (0 : Fin 2)).val = _; omega
  have e1 : ((tileAt (d, p, r)).emb j (1 : Fin 2)).val = 1024 * p.val + (j (1 : Fin 2)).val := by
    show 1024 * p.val + 1 * (j (1 : Fin 2)).val = _; omega
  have ht : tileOf ((tileAt (d, p, r)).emb j) = (d, p, r) := by
    refine Prod.ext (Fin.ext ?_) (Prod.ext (Fin.ext ?_) (Fin.ext ?_))
    · show ((tileAt (d, p, r)).emb j (0 : Fin 2)).val / 256 % 2 = d.val; rw [e0]; omega
    · show ((tileAt (d, p, r)).emb j (1 : Fin 2)).val / 1024 = p.val; rw [e1]; omega
    · show ((tileAt (d, p, r)).emb j (0 : Fin 2)).val / 512 = r.val; rw [e0]; omega
  have hj : inTile ((tileAt (d, p, r)).emb j) = j := by
    funext a; apply Fin.ext
    match a with
    | ⟨0, _⟩ => show ((tileAt (d, p, r)).emb j (0 : Fin 2)).val % 256 = (j (0 : Fin 2)).val; rw [e0]; omega
    | ⟨1, _⟩ => show ((tileAt (d, p, r)).emb j (1 : Fin 2)).val % 1024 = (j (1 : Fin 2)).val; rw [e1]; omega
  unfold outX; rw [ht, hj]

theorem sval_high (c : Dev nD) (k : Fin 6) (hk : 3 ≤ k.val) (d p : Fin 2) : sval A B (num k d p) c = outV A B d p (pos d c k.val) := by
  unfold sval
  rw [if_neg (by rw [num_val]; omega), (num_at k d p).1, (num_at k d p).2.1, (num_at k d p).2.2]
theorem rval_5 (c : Dev nD) (d p : Fin 2) : rval A B (num 5 d p) c = outV A B d p (pos d c 6) := by
  unfold rval; rw [sval_high A B _ 5 (by decide), (num_at 5 d p).1]
  have h := pos_nxt d (prv d c) 5
  rw [nxt_prv] at h; rw [h]; rfl

/-- What a copy leaves, but for its semaphores. -/
def left (c : Dev nD) (i : Fin 24) : sProp 𝕄 :=
  if 12 ≤ i.val ∧ i.val < 20 then iprop(own c (srcT i c) (sval A B i c) ∗ back i c)
  else iprop((own c (srcT i c) (sval A B i c) ∗ own c (dstT i c) (rval A B i c)) ∗ back i c)

theorem stat_end : stat ⟨4, 12, 4, 24, 24, 24⟩ = fun i => if 12 ≤ i.val ∧ i.val < 20 then .pass else .got := by decide

theorem S_end (c : Dev nD) (i : Fin 24) : S A B c i (if 12 ≤ i.val ∧ i.val < 20 then .pass else .got)
    ⊢ iprop((semVal (sCell i c) 0 ∗ semVal (rCell i c) 0) ∗ left A B c i) := by
  unfold left
  by_cases h : 12 ≤ i.val ∧ i.val < 20
  · rw [if_pos h, if_pos h, S_pass]
    iintro ⟨⟨H1, H2⟩, H3, H4⟩
    isplitl [H1 H3]
    · isplitl [H1] <;> iassumption
    isplitl [H2] <;> iassumption
  · rw [if_neg h, if_neg h, S_got]
    iintro ⟨⟨H1, H2⟩, ⟨H3, H5⟩, H4⟩
    isplitl [H1 H3]
    · isplitl [H1] <;> iassumption
    isplitr [H4]
    · isplitl [H2] <;> iassumption
    iexact H4

theorem St_end (c : Dev nD) : St A B c (stat ⟨4, 12, 4, 24, 24, 24⟩)
    ⊢ iprop(((bigSep Finset.univ fun i : Fin 24 => semVal (sCell i c) 0) ∗ bigSep Finset.univ fun i : Fin 24 => semVal (rCell i c) 0)
      ∗ bigSep Finset.univ fun i : Fin 24 => left A B c i) := by
  unfold St
  rw [stat_end, ← bigSep_sep', ← bigSep_sep']
  exact bigSep_mono fun i _ => S_end A B c i

theorem left_low (c : Dev nD) (k : Fin 6) (hk : k.val < 3) (d p : Fin 2) :
    left A B c (num k d p) ⊢ iprop(ownE c (tP d p (pos d c k.val)) ∗ ownE c (tC d p ⟨k.val, hk⟩)) := by
  unfold left
  rw [if_neg (by rw [num_val]; omega),
    src_low c k hk, dst_low c k hk]
  iintro ⟨⟨H1, H2⟩, -⟩
  isplitl [H1]
  · iapply (ownE_intro c _ _); iexact H1
  · iapply (ownE_intro c _ _); iexact H2
theorem left_3 (c : Dev nD) (d p : Fin 2) :
    left A B c (num 3 d p) ⊢ iprop(own c (tO d p (pos d c 3)) (outV A B d p (pos d c 3)) ∗ ownE c (tP d p (pos d c 3))) := by
  unfold left
  rw [if_pos (by revert d p; decide),
    src_high c 3 (by decide), sval_high A B c 3 (by decide), back_3]
  exact entails_refl _
theorem left_4 (c : Dev nD) (d p : Fin 2) : left A B c (num 4 d p) ⊢ own c (tO d p (pos d c 0)) (outV A B d p (pos d c 0)) := by
  unfold left
  rw [if_pos (by revert d p; decide),
    src_high c 4 (by decide), sval_high A B c 4 (by decide), show pos d c ((4 : Fin 6) : Fin 6).val = pos d c 0 from pos_4 d c]
  iintro ⟨H, -⟩; iexact H
theorem left_5 (c : Dev nD) (d p : Fin 2) :
    left A B c (num 5 d p) ⊢ iprop(own c (tO d p (pos d c 1)) (outV A B d p (pos d c 1)) ∗ own c (tO d p (pos d c 2)) (outV A B d p (pos d c 2))) := by
  unfold left
  rw [if_neg (by revert d p; decide),
    src_high c 5 (by decide), sval_high A B c 5 (by decide), dst_high c 5 (by decide), rval_5,
    show pos d c ((5 : Fin 6) : Fin 6).val = pos d c 1 from pos_5 d c, show pos d c (((5 : Fin 6) : Fin 6).val + 1) = pos d c 2 from pos_6 d c, pos_6]
  iintro ⟨H, -⟩; iexact H

theorem join_all (c : Dev nD) : (bigSep Finset.univ fun i : Fin 24 => left A B c i)
    ⊢ (iprop(own c oM (outX A B) ∗ ownE c pM ∗ ownE c (cM 0) ∗ ownE c (cM 1)) : sProp 𝕄) := by
  have hc : iprop(quad (fun d p => ownE (F := F) c (tC d p 0)) ∗ quad (fun d p => ownE (F := F) c (tC d p 1)) ∗ quad (fun d p => ownE (F := F) c (tC d p 2)))
      ⊢ (iprop(ownE c (cM 0) ∗ ownE c (cM 1)) : sProp 𝕄) := by
    rw [← three (fun d p k => ownE (F := F) c (tC d p k))]
    exact (sep_mono_left (join_land c 0)).trans (sep_mono_right (join_land c 1))
  have hp : iprop(quad (fun d p => ownE (F := F) c (tP d p (pos d c 0))) ∗ quad (fun d p => ownE (F := F) c (tP d p (pos d c 1)))
      ∗ quad (fun d p => ownE (F := F) c (tP d p (pos d c 2))) ∗ quad (fun d p => ownE (F := F) c (tP d p (pos d c 3)))) ⊢ (ownE c pM : sProp 𝕄) := by
    rw [← four c (fun d p r => ownE (F := F) c (tP d p r))]
    exact join_pbuf c
  have ho : iprop(quad (fun d p => own c (tO d p (pos d c 0)) (outV A B d p (pos d c 0))) ∗ quad (fun d p => own c (tO d p (pos d c 1)) (outV A B d p (pos d c 1)))
      ∗ quad (fun d p => own c (tO d p (pos d c 2)) (outV A B d p (pos d c 2))) ∗ quad (fun d p => own c (tO d p (pos d c 3)) (outV A B d p (pos d c 3)))) ⊢ (own c oM (outX A B) : sProp 𝕄) := by
    rw [← four c (fun d p r => own c (tO d p r) (outV A B d p r))]
    refine Entails.trans (Entails.of_eq ?_) (join_out c (outX A B))
    exact bigSep_congr fun t _ => congrArg (own c (tO t.1 t.2.1 t.2.2)) (funext fun j => (outX_tile A B t j).symm)
  have l0 := (quad_mono (left_low A B c 0 (by decide))).trans (Entails.of_eq (quad_sep _ _))
  have l1 := (quad_mono (left_low A B c 1 (by decide))).trans (Entails.of_eq (quad_sep _ _))
  have l2 := (quad_mono (left_low A B c 2 (by decide))).trans (Entails.of_eq (quad_sep _ _))
  have l3 := (quad_mono (left_3 A B c)).trans (Entails.of_eq (quad_sep _ _))
  have l4 := quad_mono (left_4 A B c)
  have l5 := (quad_mono (left_5 A B c)).trans (Entails.of_eq (quad_sep _ _))
  rw [six]
  iintro ⟨H0, H1, H2, H3, H4, H5⟩
  ihave H0 := l0 $$ H0
  icases H0 with ⟨P0, C0⟩
  ihave H1 := l1 $$ H1
  icases H1 with ⟨P1, C1⟩
  ihave H2 := l2 $$ H2
  icases H2 with ⟨P2, C2⟩
  ihave H3 := l3 $$ H3
  icases H3 with ⟨O3, P3⟩
  ihave O0 := l4 $$ H4
  ihave H5 := l5 $$ H5
  icases H5 with ⟨O1, O2⟩
  isplitl [O0 O1 O2 O3]
  · iapply ho
    isplitl [O0]; · iexact O0
    isplitl [O1]; · iexact O1
    isplitl [O2]; · iexact O2
    iexact O3
  isplitl [P0 P1 P2 P3]
  · iapply hp
    isplitl [P0]; · iexact P0
    isplitl [P1]; · iexact P1
    isplitl [P2]; · iexact P2
    iexact P3
  iapply hc
  isplitl [C0]; · iexact C0
  isplitl [C1]; · iexact C1
  iexact C2

/-! ## The whole body -/

variable {A B} {K : Dev nD × KIx → ℕ} {c : Dev nD}
variable {w0 : aM.IsWhole} {w1 : bM.IsWhole} {w2 : oM.IsWhole} {w3 : pM.IsWhole} {w4 : bbM.IsWhole} {w5 : (cM 0).IsWhole} {w6 : (cM 1).IsWhole}

/-- The scratch buffers, with whatever contents. -/
def scratch (c : Dev nD) : sProp 𝕄 := iprop(ownE c pM ∗ ownE c bbM ∗ ownE c (cM 0) ∗ ownE c (cM 1))

/-- The tokens that the launch deals a device. -/
def kits (c : Dev nD) : sProp 𝕄 := iprop(barKit c ∗ bigSep Finset.univ fun i : Fin 24 => kit₀ i c)

/-- All of a device's semaphores at zero. -/
def zeros (c : Dev nD) : sProp 𝕄 :=
  iprop(((bigSep Finset.univ fun i : Fin 24 => semVal (sCell i c) 0) ∗ bigSep Finset.univ fun i : Fin 24 => semVal (rCell i c) 0) ∗ semVal (barCell c) 0)

/-- What the program starts from, -/
def Start (A : Dev nD → Vec F S2048x1024 .bf16) (B : Dev nD → Vec F S1024x2048 .bf16) (K : Dev nD × KIx → ℕ) (c : Dev nD) : sProp 𝕄 :=
  iprop((recs A B K ∗ kits c) ∗ scratch c ∗ (∃ W, owes (c : Thread nD τ) (owed₀ c) W) ∗ own c aM (A c) ∗ own c bM (B c) ∗ ownE c oM)
/-- and what it ends with. -/
def Done (A : Dev nD → Vec F S2048x1024 .bf16) (B : Dev nD → Vec F S1024x2048 .bf16) (c : Dev nD) : sProp 𝕄 :=
  iprop((scratch c ∗ zeros c) ∗ (∃ W, owes (c : Thread nD τ) 0 W) ∗ own c aM (A c) ∗ own c bM (B c) ∗ own c oM (outX A B))

theorem begin_intro : Start A B K c ⊢ Begin A B K c := by
  unfold Start Begin Pre kits scratch
  iintro ⟨⟨Hr, Hbar, Hkit⟩, ⟨Hp, Hbb, Hc⟩, HO, Ha, Hb, Ho⟩
  ihave H := (split_all c) $$ [Ho Hc]
  · isplitl [Ho] <;> iassumption
  icases H with ⟨Hg, Hh⟩
  ihave Hp := (split_chunks c) $$ Hp
  isplitl [Ha Hb Hbb]
  · isplitl [Ha Hb]
    · isplitl [Ha] <;> iassumption
    iexact Hbb
  isplitr [Hp]
  rotate_left
  · iexact Hp
  isplitl [Hr]; · iexact Hr
  isplitl [HO Hbar]
  · isplitl [HO] <;> iassumption
  isplitl [Hg]; · iexact Hg
  isplitl [Hkit] <;> iassumption

theorem done_intro : At A B K c iprop(blocks A B c ∗ semVal (barCell c) 0) ⟨4, 12, 4, 24, 24, 24⟩ ⊢ Done A B c := by
  unfold At R blocks Done zeros scratch
  iintro ⟨⟨-, HSt, HO⟩, ⟨⟨Ha, Hb⟩, Hbb⟩, Hz⟩
  ihave H := (St_end A B c) $$ HSt
  icases H with ⟨Hsem, H⟩
  ihave H := (join_all A B c) $$ H
  icases H with ⟨Ho, Hp, Hc⟩
  ihave Hbb := (ownE_intro c bbM _) $$ Hbb
  isplitl [Hp Hbb Hc Hsem Hz]
  · isplitl [Hp Hbb Hc]
    · isplitl [Hp]; · iexact Hp
      isplitl [Hbb] <;> iassumption
    isplitl [Hsem] <;> iassumption
  isplitl [HO]
  · rw [show 24 - (⟨4, 12, 4, 24, 24, 24⟩ : Cnt).sent = 0 from rfl, owed_zero]; iexact HO
  isplitl [Ha]; · iexact Ha
  isplitl [Hb] <;> iassumption

theorem sound : Start A B K c ⊢ WP c (cc0_body aM w0 bM w1 oM w2 pM w3 bbM w4 (cM 0) w5 (cM 1) w6
    cc0_scratch4 cc0_scratch5 cc0_scratch6 cc0_scratch7) fun _ => Done A B c :=
  begin_intro.trans (run_body done_intro)

end Cert.Ring
end
end
-- ==== Proof.Ring.Deal.lean ====
/-
# What the launch deals

The launch makes all cells of the mesh at once and deals every device its tokens: the two duties of a device's barrier go to
its two neighbours, the duty of a receiver's cell goes to the neighbour that sends there. The credits match what
the devices owe.
-/
module

public import proofs.«01_k».proof.Proof.Ring.Ends
public import proofs.«01_k».proof.Proof.Gen.KernelIdeal.Frame

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → Vec F S2048x1024 .bf16) (B : Dev nD → Vec F S1024x2048 .bf16)

/-! ## The cells, listed -/

/-- The scoped semaphores: of each copy the sender's and the receiver's. -/
def osem : Bool × Fin 24 → SemLoc sig
  | (false, i) => .dma (sS i)
  | (true, i) => .dma (rS i)

theorem osem_code : ∀ x q, osem x = .dma q → code q = some x
  | (false, i), q, h => by cases h; exact code_s i
  | (true, i), q, h => by cases h; exact code_r i

theorem osem_injective : Function.Injective osem := fun x y h => by
  have hx : ∃ q, osem x = .dma q := by rcases x with ⟨_ | _, i⟩ <;> exact ⟨_, rfl⟩
  obtain ⟨q, hq⟩ := hx
  exact Option.some.inj ((osem_code x q hq).symm.trans (osem_code y q (h ▸ hq)))

theorem stage_code : ∀ (w : Fin 3) (s : Fin (spec0 w).nbuf), code ((spec0 w).sem s) = none := by decide

theorem ownSemFacts : Pipeline.OwnSemFacts cfg0.spec osem where
  isScoped := by decide
  inj := osem_injective
  disj x w s h := by
    have h1 := osem_code x _ h
    have h2 : code ((spec0 w).sem s) = none := stage_code w s
    exact absurd (h1.symm.trans h2) (by simp)

theorem kcell_some (c : Dev nD) (x : Bool × Fin 24) : kcell (c, some x) = ((c : Thread nD τ), osem x) := by
  rcases x with ⟨_ | _, i⟩ <;> rfl

theorem kcell_injective : Function.Injective kcell := by
  rintro ⟨c, x⟩ ⟨c', x'⟩ h
  have hd : ∀ y : Dev nD × KIx, (kcell y).1.1 = y.1 := by rintro ⟨d, _ | ⟨_ | _, i⟩⟩ <;> rfl
  have h1 : c = c' := ((hd (c, x)).symm.trans (congrArg (fun g : GSem nD τ sig => g.1.1) h)).trans (hd (c', x'))
  subst h1
  have hn : ∀ y, kcell (c, none) ≠ kcell (c, some y) := by
    rintro ⟨_ | _, i⟩ e <;> exact absurd (congrArg Prod.snd e) (fun e' => by cases e')
  rcases x with _ | x <;> rcases x' with _ | x'
  · rfl
  · exact absurd h (hn x')
  · exact absurd h.symm (hn x)
  · rw [kcell_some, kcell_some] at h
    rw [osem_injective (congrArg Prod.snd h)]

theorem bar_inj {a b : Dev nD} (h : barCell a = barCell b) : a = b :=
  (Prod.ext_iff.mp (kcell_injective (a₁ := (a, none)) (a₂ := (b, none)) h)).1
theorem r_inj {i j : Fin 24} {a b : Dev nD} (h : rCell i a = rCell j b) : i = j ∧ a = b := by
  have e := kcell_injective (a₁ := (a, some (true, i))) (a₂ := (b, some (true, j))) h
  exact ⟨(Prod.ext_iff.mp (Option.some.inj (Prod.ext_iff.mp e).2)).2, (Prod.ext_iff.mp e).1⟩
theorem bar_ne_r (i : Fin 24) (a b : Dev nD) : barCell a ≠ rCell i b := fun h =>
  absurd (congrArg Prod.snd h) fun e => by cases e

theorem bigSep_option {α : Type} [Fintype α] (Φ : Option α → sProp 𝕄) :
    bigSep Finset.univ Φ = iprop(Φ none ∗ bigSep Finset.univ fun a => Φ (some a)) := by
  rw [bigSep_univ_equiv (Equiv.optionEquivSumPUnit.{0, 0} α).symm Φ, bigSep_univ_sum, bigSep_univ_of_subsingleton PUnit.unit]
  exact BI.Entails.antisymm Idealize.SL.BI.sep_comm Idealize.SL.BI.sep_comm

theorem bigSep_both (Φ : Bool × Fin 24 → sProp 𝕄) :
    bigSep Finset.univ Φ = iprop((bigSep Finset.univ fun i => Φ (false, i)) ∗ bigSep Finset.univ fun i => Φ (true, i)) := by
  rw [bigSep_univ_prod, bigSep_univ_eq_bigSepL [false, true] (by decide) (by decide)]; rfl

/-! ## The tokens -/

def ringCells : Finset (GSem nD τ sig) := Finset.univ.map ⟨kcell, kcell_injective⟩

/-- The duties of a device's cells: one for each cell, and the barrier's other. -/
def tokOf : Dev nD × Option KIx → GSem nD τ sig × ℕ × Fin 2
  | (c, none) => (barCell c, 0, 1)
  | (c, some x) => (kcell (c, x), 0, 0)
theorem tokOf_injective : Function.Injective tokOf := by
  rintro ⟨c, _ | x⟩ ⟨c', _ | x'⟩ h
  · rw [bar_inj (congrArg Prod.fst h)]
  · exact absurd (congrArg (fun y => y.2.2) h) (show (1 : Fin 2) ≠ 0 by decide)
  · exact absurd (congrArg (fun y => y.2.2) h) (show (0 : Fin 2) ≠ 1 by decide)
  · have e := kcell_injective (a₁ := (c, x)) (a₂ := (c', x')) (congrArg Prod.fst h)
    cases e; rfl
def ringToks : Finset (GSem nD τ sig × ℕ × Fin 2) := Finset.univ.map ⟨tokOf, tokOf_injective⟩

def u₀ : UU := (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 1 ∗ dutyTok ER (barCell c) 0 0
    ∗ (bigSep Finset.univ fun i : Fin 24 => dutyTok ER (sCell i c) 0 0) ∗ bigSep Finset.univ fun i : Fin 24 => dutyTok ER (rCell i c) 0 0)

/-- What the launch's element deals device `c`, -/
def G (c : Dev nD) : sProp 𝕄 :=
  iprop((bigSep Finset.univ fun x : KIx => roundState ER (ringRd A B) (kcell (c, x)) 0)
    ∗ (bigSep Finset.univ fun x : KIx => iprop(atPos ER (kcell (c, x)) 0 ∅ 0 ∗ reached ER (kcell (c, x)) 0)) ∗ toks c)

theorem fund_ring : BI.own (ER (initOf ringCells ringToks)) ⊢ (|==> bigSep Finset.univ (G A B) : sProp 𝕄) := by
  have hX (Φ : GSem nD τ sig → sProp 𝕄) : bigSep ringCells Φ = bigSep Finset.univ fun c : Dev nD => bigSep Finset.univ fun x : KIx => Φ (kcell (c, x)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_option, bigSep_option, bigSep_both]; rfl
  iintro HX
  imod (Rounds.fund ER (ringRd A B) ringCells ringToks) $$ HX with ⟨Hst, Hr, Hat, Htok⟩
  imodintro
  ihave Hst' := (Entails.of_eq (hX fun g => roundState ER (ringRd A B) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

theorem own_zeros (c : Dev nD) : (Pipeline.ownSems0 (Ix := Unit) (Name := ℕ) (U := UU) (Lvl := ℕ) (Val := Elt F) (τ := τ) osem c : sProp 𝕄)
    = iprop((bigSep Finset.univ fun i : Fin 24 => semVal (sCell i c) 0) ∗ bigSep Finset.univ fun i : Fin 24 => semVal (rCell i c) 0) := by
  unfold Pipeline.ownSems0; rw [bigSep_both]; rfl
theorem bar_zero (c : Dev nD) : (unscopedSems0 c : sProp 𝕄) = semVal (barCell c) 0 := by
  unfold unscopedSems0; rw [bigSep_eq_bigSepL_of_eq [SemLoc.reg barS] (by decide) (by decide)]; rfl

theorem cells_zero (c : Dev nD) :
    iprop(Pipeline.ownSems0 (Ix := Unit) (Name := ℕ) (U := UU) (Lvl := ℕ) (Val := Elt F) (τ := τ) osem c ∗ unscopedSems0 c)
      ⊢ (bigSep Finset.univ fun x : KIx => semVal (kcell (c, x)) 0 : sProp 𝕄) := by
  rw [own_zeros, bar_zero, bigSep_option, bigSep_both]
  iintro ⟨H, HB⟩
  isplitl [HB]; · iexact HB
  iexact H

/-! ## The global step -/

/-- A device's cells become invariants. -/
theorem core_alloc (c : Dev nD) :
    iprop(Pipeline.ownSems0 (Ix := Unit) (Name := ℕ) (U := UU) (Lvl := ℕ) (Val := Elt F) (τ := τ) osem c ∗ unscopedSems0 c ∗ G A B c)
      ⊢ |={Set.univ}=> iprop((bigSep Finset.univ fun x : KIx => iprop(∃ κ : ℕ, cellInv ER (ringRd A B) κ (kcell (c, x))))
          ∗ (bigSep Finset.univ fun x : KIx => iprop(atPos ER (kcell (c, x)) 0 ∅ 0 ∗ reached ER (kcell (c, x)) 0)) ∗ toks c) := by
  have h : iprop((bigSep Finset.univ fun x : KIx => semVal (kcell (c, x)) 0) ∗ bigSep Finset.univ fun x : KIx => roundState ER (ringRd A B) (kcell (c, x)) 0)
      ⊢ (|={Set.univ}=> bigSep Finset.univ fun x : KIx => iprop(∃ κ : ℕ, cellInv ER (ringRd A B) κ (kcell (c, x))) : sProp 𝕄) := by
    rw [← bigSep_sep']
    exact (bigSep_mono fun x _ => (Rounds.body_intro ER (ringRd A B) (kcell (c, x))).trans inv_alloc).trans (bigSep_fupd _ _)
  unfold G
  iintro ⟨Hos, Hus, Hst, Hat, Htok⟩
  ihave Hv := (cells_zero (F := F) c) $$ [Hos Hus]
  · isplitl [Hos] <;> iassumption
  imod h $$ [Hv Hst] with Hinv
  · isplitl [Hv] <;> iassumption
  imodintro
  isplitl [Hinv]; · iexact Hinv
  isplitl [Hat] <;> iassumption

/-- The records without the levels. -/
def marks (K : Dev nD × KIx → ℕ) : sProp 𝕄 :=
  iprop((bigSep Finset.univ fun x : Dev nD × KIx => cellInv ER (ringRd A B) (K x) (kcell x))
    ∗ bigSep Finset.univ fun x : Dev nD × KIx => reached ER (kcell x) 0)
instance marks_persistent (K : Dev nD × KIx → ℕ) : BI.Persistent (marks A B K) := by unfold marks; infer_instance

/-- The duties a device pays. -/
def pays (c : Dev nD) : sProp 𝕄 :=
  iprop(dutyTok ER (barCell (nxt 0 c)) 0 1 ∗ dutyTok ER (barCell (nxt 1 c)) 0 0
    ∗ (bigSep Finset.univ fun i : Fin 24 => dutyTok ER (sCell i c) 0 0) ∗ bigSep Finset.univ fun i : Fin 24 => dutyTok ER (rCell i (nxt (kd i) c)) 0 0)

def poss (c : Dev nD) : sProp 𝕄 := bigSep Finset.univ fun x : KIx => atPos ER (kcell (c, x)) 0 ∅ 0

def G' (c : Dev nD) : sProp 𝕄 := iprop(∃ K, marks A B K ∗ poss c ∗ pays c)

theorem toks_around : (bigSep Finset.univ fun c : Dev nD => (toks c : sProp 𝕄)) ⊢ bigSep Finset.univ fun c : Dev nD => pays c := by
  unfold toks pays
  have hr : (bigSep Finset.univ fun c : Dev nD => bigSep Finset.univ fun i : Fin 24 => (dutyTok ER (rCell i c) 0 0 : sProp 𝕄))
      = bigSep Finset.univ fun c : Dev nD => bigSep Finset.univ fun i : Fin 24 => dutyTok ER (rCell i (nxt (kd i) c)) 0 0 := by
    rw [bigSep_univ_comm, bigSep_univ_comm (fun (c : Dev nD) (i : Fin 24) => (dutyTok ER (rCell i (nxt (kd i) c)) 0 0 : sProp 𝕄))]
    exact bigSep_congr fun i _ => bigSep_univ_equiv (turn (kd i)) _
  rw [bigSep_sep', bigSep_sep', bigSep_sep', bigSep_sep', bigSep_sep', bigSep_sep', hr,
    bigSep_univ_equiv (turn 0) (fun c : Dev nD => (dutyTok ER (barCell c) 0 1 : sProp 𝕄)),
    bigSep_univ_equiv (turn 1) (fun c : Dev nD => (dutyTok ER (barCell c) 0 0 : sProp 𝕄))]
  exact entails_refl _

/-- Something persistent beside many things goes to each of them. -/
theorem bigSep_beside {I : Type} [DecidableEq I] {s : Finset I} {P : sProp 𝕄} [BI.Persistent P] {Φ Ψ : I → sProp 𝕄}
    (h : ∀ i ∈ s, iprop(P ∗ Φ i) ⊢ Ψ i) : iprop(P ∗ bigSep s Φ) ⊢ bigSep s Ψ := by
  refine (sep_mono_left (BI.bigSep_of_persistent s P)).trans ?_
  rw [← bigSep_sep']
  exact bigSep_mono h

theorem deal :
    (bigSep Finset.univ fun c : Dev nD => iprop((bigSep Finset.univ fun x : KIx => iprop(∃ κ : ℕ, cellInv ER (ringRd A B) κ (kcell (c, x))))
          ∗ (bigSep Finset.univ fun x : KIx => iprop(atPos ER (kcell (c, x)) 0 ∅ 0 ∗ reached ER (kcell (c, x)) 0)) ∗ toks c) : sProp 𝕄)
      ⊢ bigSep Finset.univ (G' A B) := by
  have hg : ∀ K c, iprop(marks A B K ∗ poss c ∗ pays c) ⊢ G' A B c := fun K c => by unfold G'; iintro H; iexists K; iexact H
  rw [bigSep_sep', bigSep_sep', ← bigSep_univ_prod (fun x : Dev nD × KIx => iprop(∃ κ : ℕ, cellInv ER (ringRd A B) κ (kcell x))),
    bigSep_congr (s := Finset.univ) (fun (c : Dev nD) _ => bigSep_sep' Finset.univ (fun x : KIx => (atPos ER (kcell (c, x)) 0 ∅ 0 : sProp 𝕄)) (fun x => reached ER (kcell (c, x)) 0)),
    bigSep_sep', ← bigSep_univ_prod (fun x : Dev nD × KIx => (reached ER (kcell x) 0 : sProp 𝕄))]
  iintro ⟨HI, ⟨Hat, #HR⟩, Htok⟩
  ihave HK := (BI.bigSep_exists_pi Finset.univ (fun (x : Dev nD × KIx) (κ : ℕ) => (cellInv ER (ringRd A B) κ (kcell x) : sProp 𝕄))) $$ HI
  icases HK with ⟨%K, #HI⟩
  ihave Htk := (toks_around (F := F)) $$ Htok
  iapply (bigSep_beside (P := marks A B K) fun c _ => hg K c)
  isplitr
  · unfold marks; isplitl; · iexact HI
    iexact HR
  · iapply (Entails.of_eq (bigSep_sep' Finset.univ (fun c : Dev nD => (poss c : sProp 𝕄)) pays).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G A B c) : sProp 𝕄)
    ⊢ |={Set.univ}=> bigSep Finset.univ (G' A B) :=
  ((bigSep_mono fun c _ => core_alloc A B c).trans (bigSep_fupd _ _)).trans (BI.fupd_mono (deal A B))

/-! ## The credits -/

theorem owed_at (n : ℕ) (hn : n ≤ 24) (c d : Dev nD) (j : Fin 24) :
    owed c n (rCell j d) () = if 24 ≤ j.val + n ∧ nxt (kd j) c = d then N else 0 := by
  induction n with
  | zero => rw [owed_zero, if_neg (fun h => by omega)]; rfl
  | succ n ih =>
    obtain ⟨i, hi⟩ : ∃ i : Fin 24, i.val = 23 - n := ⟨⟨23 - n, by omega⟩, rfl⟩
    have e := owed_step i c
    rw [show 24 - i.val = n + 1 by omega, show 24 - (i.val + 1) = n by omega] at e
    rw [e, Pi.add_apply, Finsupp.add_apply, tallyAt_apply, ih (by omega)]
    by_cases hj : j = i
    · subst hj
      rw [if_neg (fun h => by omega), Nat.zero_add]
      by_cases hc : nxt (kd j) c = d
      · rw [if_pos ⟨by rw [hc], rfl⟩, if_pos ⟨by omega, hc⟩]
      · rw [if_neg (fun h => hc (r_inj h.1).2.symm), if_neg (fun h => hc h.2)]
    · rw [if_neg (show ¬(rCell j d = rCell i (nxt (kd i) c) ∧ () = ()) from fun h => hj (r_inj h.1).1), Nat.add_zero]
      have hv : j.val ≠ i.val := fun h => hj (Fin.ext h)
      by_cases hc : 24 ≤ j.val + n ∧ nxt (kd j) c = d
      · rw [if_pos hc, if_pos ⟨by omega, hc.2⟩]
      · rw [if_neg hc, if_neg (fun h => hc ⟨by omega, h.2⟩)]

theorem nxt_iff (e : Fin 2) (c d : Dev nD) : Iff (nxt e c = d) (c = prv e d) :=
  ⟨fun h => by rw [← h, prv_nxt], fun h => by rw [h, nxt_prv]⟩

theorem owed_r (c d : Dev nD) (j : Fin 24) : owed₀ c (rCell j d) () = if c = prv (kd j) d then N else 0 := by
  unfold owed₀ owed₁
  rw [Pi.add_apply, Finsupp.add_apply, Pi.add_apply, Finsupp.add_apply, tallyAt_apply, tallyAt_apply,
    if_neg (fun h => bar_ne_r j _ _ h.1.symm), if_neg (fun h => bar_ne_r j _ _ h.1.symm), owed_at 24 (le_refl _), Nat.add_zero, Nat.add_zero]
  by_cases h : c = prv (kd j) d
  · rw [if_pos ⟨by omega, (nxt_iff _ _ _).mpr h⟩, if_pos h]
  · rw [if_neg (fun h' => h ((nxt_iff _ _ _).mp h'.2)), if_neg h]

theorem owed_bar (c d : Dev nD) : owed₀ c (barCell d) () = (if c = prv 0 d then 1 else 0) + (if c = prv 1 d then 1 else 0) := by
  have h0 : owed c 24 (barCell d) () = 0 := by
    by_contra h
    obtain ⟨i, -, e⟩ := owed_pos (le_refl 24) (Nat.pos_of_ne_zero h)
    exact bar_ne_r i _ _ e
  have h1 : ∀ e, (if barCell d = barCell (nxt e c) ∧ () = () then 1 else 0) = if c = prv e d then 1 else 0 := fun e => by
    by_cases h : nxt e c = d
    · rw [if_pos ⟨by rw [h], rfl⟩, if_pos ((nxt_iff e c d).mp h)]
    · rw [if_neg (fun h' => h (bar_inj h'.1).symm), if_neg (fun h' => h ((nxt_iff e c d).mpr h'))]
  unfold owed₀ owed₁
  rw [Pi.add_apply, Finsupp.add_apply, Pi.add_apply, Finsupp.add_apply, tallyAt_apply, tallyAt_apply, h0, h1, h1, Nat.zero_add]

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv 0 c) fun _ => 1, Finset.sum_ite_eq' Finset.univ (prv 1 c) fun _ => 1, if_pos (Finset.mem_univ _), if_pos (Finset.mem_univ _)]
theorem launch_r (i : Fin 24) (c : Dev nD) :
    tallyOn (rCell i c) (launchCredit (Pipeline.owing owed₀) 0 (rCell i c)) = (tallyAt (rCell i c) () N : CellTallies nD τ sig Unit) := by
  unfold tallyAt; refine congrArg _ (Finsupp.ext fun u => ?_); cases u
  rw [Pipeline.launchCredit_owing, Finsupp.single_eq_same, Finset.sum_congr rfl fun d _ => owed_r d c i,
    Finset.sum_ite_eq' Finset.univ (prv (kd i) c) fun _ => N, if_pos (Finset.mem_univ _)]

theorem rS_injective : Function.Injective fun i : Fin 24 => (SemLoc.dma (rS i) : SemLoc sig) := fun i j h => by
  exact (Prod.ext_iff.mp (osem_injective (a₁ := (true, i)) (a₂ := (true, j)) h)).2

theorem creds (c : Dev nD) :
    (Pipeline.launchCred owed₀ c : sProp 𝕄) ⊢ iprop(cred (tallyAt (barCell c) () 2) ∗ bigSep Finset.univ fun i : Fin 24 => cred (tallyAt (rCell i c) () N)) := by
  unfold Pipeline.launchCred
  rw [bigSep_univ_at _ (SemLoc.reg barS), launch_bar]
  refine sep_mono_right ?_
  have hs : (Finset.univ.map ⟨_, rS_injective⟩ : Finset (SemLoc sig)) ⊆ Finset.univ.erase (SemLoc.reg barS) := fun x hx => by
    obtain ⟨i, -, rfl⟩ := Finset.mem_map.mp hx
    exact Finset.mem_erase.mpr ⟨fun e => (by cases e), Finset.mem_univ _⟩
  refine (bigSep_subset hs).trans ?_
  rw [bigSep_map]
  exact bigSep_mono fun i _ => Entails.of_eq (congrArg cred (launch_r i c))

/-- All tokens of a device. -/
theorem kits_intro (c : Dev nD) :
    iprop((poss c ∗ pays c) ∗ cred (tallyAt (barCell c) () 2) ∗ bigSep Finset.univ fun i : Fin 24 => cred (tallyAt (rCell i c) () N))
      ⊢ (kits c : sProp 𝕄) := by
  unfold poss pays kits barKit kit₀
  rw [bigSep_option, bigSep_both, bigSep_sep', bigSep_sep', bigSep_sep', bigSep_sep']
  iintro ⟨⟨⟨HaB, HaS, HaR⟩, Ht1, Ht0, HtS, HtR⟩, HcB, HcR⟩
  isplitl [HaB Ht1 Ht0 HcB]
  · isplitl [Ht1 Ht0]
    · isplitl [Ht0] <;> iassumption
    isplitl [HaB]; · iexact HaB
    iexact HcB
  isplitl [HtS]; · iexact HtS
  isplitl [HtR]; · iexact HtR
  isplitl [HaS]; · iexact HaS
  isplitl [HaR]; · iexact HaR
  iexact HcR

end Cert.Ring
end
end
-- ==== Proof.Ring.Launch.lean ====
/-
# The run of the whole mesh

The pipeline stages the two operands, the body runs once on every device, and the result's staging buffer is written
back. From the launch's tokens every execution ends, with all semaphores at zero and the result arrays as computed.
-/
module

public import proofs.«01_k».proof.Proof.Ring.Deal
public import Idealize.ShloMosaic.Lib.Pipeline.CollectiveSegs

@[expose] public section

noncomputable section

namespace Cert.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-- The operands as staged. -/
def inA (c : Dev nD) : Vec F S2048x1024 .bf16 := (win0_0.blk (0 : Fin 1)).view.read (Elt F) (m ((c : Thread nD τ).loc main_arg0))
def inB (c : Dev nD) : Vec F S1024x2048 .bf16 := (win0_1.blk (0 : Fin 1)).view.read (Elt F) (m ((c : Thread nD τ).loc main_arg1))

/-! ## Whole buffers -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem whole_in (c : Dev nD) (b : Ref sig .tc) :
    iprop(∃ f : Buf (Elt F) (((c : Dev nD) : Thread nD τ).loc b), (((c : Thread nD τ).loc b) ↦{fullShare} f))
      ⊢ (iprop(∃ X : b.ty.Contents (Elt F), owns (c : Thread nD τ) (Memref.whole b) fullShare X) : sProp 𝕄) := by
  iintro ⟨%f, H⟩
  iexists f
  rw [owns_whole]
  iexists f
  isplitr; · ipureintro; rfl
  iexact H
theorem whole_out (c : Dev nD) (b : Ref sig .tc) :
    (iprop(∃ X : b.ty.Contents (Elt F), owns (c : Thread nD τ) (Memref.whole b) fullShare X) : sProp 𝕄)
      ⊢ iprop(∃ f : Buf (Elt F) (((c : Dev nD) : Thread nD τ).loc b), (((c : Thread nD τ).loc b) ↦{fullShare} f)) := by
  iintro ⟨%X, H⟩
  ihave H := (Entails.of_eq (owns_whole (F := F) c b X)) $$ H
  icases H with ⟨%f, -, H⟩
  iexists f; iexact H

theorem scratch_in (c : Dev nD) : (Pipeline.scopedRest cfg0.spec c : sProp 𝕄) ⊢ scratch c := by
  rw [scopedRest0_eq]
  unfold scratch ownE
  iintro ⟨H0, H1, H2, H3⟩
  ihave H0 := (whole_in (F := F) c cc0_scratch0) $$ H0
  ihave H1 := (whole_in (F := F) c cc0_scratch1) $$ H1
  ihave H2 := (whole_in (F := F) c cc0_scratch2) $$ H2
  ihave H3 := (whole_in (F := F) c cc0_scratch3) $$ H3
  isplitl [H0]; · iexact H0
  isplitl [H1]; · iexact H1
  isplitl [H2]; · iexact H2
  iexact H3
theorem scratch_out (c : Dev nD) : scratch c ⊢ (Pipeline.scopedRest cfg0.spec c : sProp 𝕄) := by
  rw [scopedRest0_eq]
  unfold scratch ownE
  iintro ⟨H0, H1, H2, H3⟩
  ihave H0 := (whole_out (F := F) c cc0_scratch0) $$ H0
  ihave H1 := (whole_out (F := F) c cc0_scratch1) $$ H1
  ihave H2 := (whole_out (F := F) c cc0_scratch2) $$ H2
  ihave H3 := (whole_out (F := F) c cc0_scratch3) $$ H3
  isplitl [H0]; · iexact H0
  isplitl [H1]; · iexact H1
  isplitl [H2]; · iexact H2
  iexact H3

/-! ## The pipeline's proof data -/

/-- What the body starts from, the pipeline's buffers apart: the launch's tokens at some names. -/
def start (c : Dev nD) : sProp 𝕄 := iprop(∃ K, recs (inA m) (inB m) K ∗ kits c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inA m c
    | ⟨1, _⟩ => inB m c
    | ⟨2, _⟩ => outX (inA m) (inB m)
  Φ t := match t with
    | ⟨0, _⟩ => iprop(start m c ∗ scratch c)
    | ⟨_ + 1, _⟩ => iprop(scratch c ∗ zeros c)
  q _ := fullShare
  owed t := match t with
    | ⟨0, _⟩ => owed₀ c
    | ⟨_ + 1, _⟩ => 0

theorem before_A (c : Dev nD) (d) : (dats m ρ 0 c).before (0 : Fin 3) t0_0 d = inA m c := by
  unfold Dat.before; rw [if_pos (fetch0_0 t0_0)]; rfl
theorem before_B (c : Dev nD) (d) : (dats m ρ 0 c).before (1 : Fin 3) t0_0 d = inB m c := by
  unfold Dat.before; rw [if_pos (fetch0_1 t0_0)]; rfl

/-! ## The body -/

def bodyPre (c : Dev nD) : sProp 𝕄 :=
  iprop(iprop(start m c ∗ scratch c) ∗ (dats m ρ 0 c).owesAt () t0_0.castSucc
    ∗ (∃ d, own c aM ((dats m ρ 0 c).before (0 : Fin 3) t0_0 d))
    ∗ (∃ d, own c bM ((dats m ρ 0 c).before (1 : Fin 3) t0_0 d))
    ∗ (∃ d, own c oM ((dats m ρ 0 c).before (2 : Fin 3) t0_0 d)))
def bodyPost (c : Dev nD) : sProp 𝕄 :=
  iprop(iprop(scratch c ∗ zeros c) ∗ (dats m ρ 0 c).owesAt () t0_0.succ
    ∗ own c aM (inA m c) ∗ own c bM (inB m c) ∗ own c oM (outX (inA m) (inB m)))

theorem pre_start (c : Dev nD) : bodyPre m ρ c ⊢ iprop(∃ K, Start (inA m) (inB m) K c) := by
  unfold bodyPre start Start Dat.owesAt Pipeline.owesWithin
  iintro ⟨⟨⟨%K, Hk⟩, Hs⟩, ⟨%W, %hW, HO⟩, ⟨%d0, Ha⟩, ⟨%d1, Hb⟩, ⟨%d2, Ho⟩⟩
  rw [before_A, before_B]
  iexists K
  isplitl [Hk]; · iexact Hk
  isplitl [Hs]; · iexact Hs
  isplitl [HO]; · iexists W; iexact HO
  isplitl [Ha]; · iexact Ha
  isplitl [Hb]; · iexact Hb
  iapply (ownE_intro c oM _); iexact Ho

theorem done_post (c : Dev nD) : Done (inA m) (inB m) c ⊢ bodyPost m ρ c := by
  unfold bodyPost Done Dat.owesAt Pipeline.owesWithin
  iintro ⟨Hs, ⟨%W, HO⟩, H⟩
  isplitl [Hs]; · iexact Hs
  isplitl [HO]
  · iexists W
    isplitr; · ipureintro; exact fun _ _ => Or.inl trivial
    iexact HO
  iexact H

set_option maxRecDepth 65536 in
theorem body_obligation (c : Dev nD) : BodyObligation (dats (F := F) m ρ 0 c) (defs₀ (F := F)) 𝒱₀ () Set.univ := fun t => by
  rw [show t = t0_0 from fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  show bodyPre m ρ c ⊢ WP c (cc0_body aM (Memref.isWhole_whole _) bM (Memref.isWhole_whole _) oM (Memref.isWhole_whole _) pM (Memref.isWhole_whole _)
    bbM (Memref.isWhole_whole _) (cM 0) (Memref.isWhole_whole _) (cM 1) (Memref.isWhole_whole _) cc0_scratch4 cc0_scratch5 cc0_scratch6 cc0_scratch7) (fun _ => bodyPost m ρ c)
  refine (pre_start m ρ c).trans (exists_elim fun K => (sound (w0 := Memref.isWhole_whole _) (w1 := Memref.isWhole_whole _) (w2 := Memref.isWhole_whole _) (w3 := Memref.isWhole_whole _)
    (w4 := Memref.isWhole_whole _) (w5 := Memref.isWhole_whole _) (w6 := Memref.isWhole_whole _)).trans ?_)
  exact wp_mono _ _ _ fun _ => done_post m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (inA m) (inB m) c)
      ⊢ |={Set.univ}=> iprop(start m c ∗ emp) := by
  unfold G' start
  iintro ⟨-, Hlev, Hcr, -, ⟨%K, Hm, Hp⟩⟩
  ihave Hc := (creds (F := F) c) $$ Hcr
  imodintro
  isplitl
  · iexists K
    isplitl [Hm Hlev]
    · unfold recs
      isplitl [Hm]
      · unfold marks; iexact Hm
      iexact Hlev
    iapply (kits_intro (F := F) c)
    isplitl [Hp]; · iexact Hp
    iexact Hc
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch c) from rfl]
  iintro ⟨Hs, -, Hr⟩
  isplitl [Hs]; · iexact Hs
  iapply (scratch_in (F := F) c); iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(scratch c ∗ zeros c) from rfl, own_zeros, bar_zero]
  unfold zeros
  iintro ⟨Hr, Hz, HzB⟩
  isplitl [HzB]; · iexact HzB
  isplitl [Hz]; · iexact Hz
  iapply (scratch_out (F := F) c); iexact Hr

/-- The waits of the pipeline itself are below all that is owed. -/
theorem mayWait_stage (c : Dev nD) (q : DmaSem sig) (hq : code q = none) (O : CellTallies nD τ sig Unit) (hO : O = owed₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => ?_) (fun g u hg => ?_)
    · rcases owed₀_pos hg with ⟨i, rfl⟩ | ⟨d, rfl⟩ <;> exact Finset.mem_singleton_self _
    · rw [Finset.mem_singleton.mp hp]
      show semLev (.dma q) ≤ 0
      dsimp only [semLev]; rw [hq]
    · rcases owed₀_pos hg with ⟨i, rfl⟩ | ⟨d, rfl⟩
      · rw [lv_r]; omega
      · rw [lv_bar]; omega
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_code w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

set_option maxRecDepth 8000 in
/-- For any float values and any memory with all counters zero every weakly fair execution of the four kernels ends,
    with the arrays as the pipeline leaves them and all semaphores at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (inA m) (inB m)) (G' := G' (inA m) (inB m)) (u₀ := u₀)
    (hu₀ := by
      unfold u₀
      iintro Hu
      ihave H := (ownU_pair _ _) $$ Hu
      icases H with ⟨HP, HX⟩
      imod (fund_ring (inA m) (inB m)) $$ HX with HG
      imodintro
      isplitl [HP] <;> iassumption)
    (hglob := glob (inA m) (inB m))
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays afterwards -/

theorem final_arg0 (c : Dev nD) : finalA m ρ c (0 : Fin 3) = m ((c : Thread nD τ).loc main_arg0) :=
  (dats (F := F) m ρ 0 c).arrAt_in (0 : Fin 3) rfl _
theorem final_arg1 (c : Dev nD) : finalA m ρ c (1 : Fin 3) = m ((c : Thread nD τ).loc main_arg1) :=
  (dats (F := F) m ρ 0 c).arrAt_in (1 : Fin 3) rfl _

/-- A whole array's only block begins at nought. -/
theorem origin0 : (fun a => (win0_0.index (0 : Fin 1)) a * main_arg0.ty.shape.size a) = fun _ => 0 :=
  funext fun a => by fin_cases a <;> decide
theorem origin1 : (fun a => (win0_1.index (0 : Fin 1)) a * main_arg1.ty.shape.size a) = fun _ => 0 :=
  funext fun a => by fin_cases a <;> decide
theorem origin2 : (fun a => (win0_2.index (0 : Fin 1)) a * main_v1.ty.shape.size a) = fun _ => 0 :=
  funext fun a => by fin_cases a <;> decide

/-- The blocks that the kernel is given are the argument arrays. -/
theorem inA_eq (c : Dev nD) : inA m c = m ((c : Thread nD τ).loc main_arg0) :=
  Memref.read_access_unit_zero (Elt F) main_arg0 origin0 (fun a => by fin_cases a <;> decide) _
theorem inB_eq (c : Dev nD) : inB m c = m ((c : Thread nD τ).loc main_arg1) :=
  Memref.read_access_unit_zero (Elt F) main_arg1 origin1 (fun a => by fin_cases a <;> decide) _

/-- The result array ends as the result of `Contents.lean`, on every device. -/
theorem final_out (c : Dev nD) : finalA m ρ c (2 : Fin 3)
    = outX (fun c => m ((c : Thread nD τ).loc main_arg0)) (fun c => m ((c : Thread nD τ).loc main_arg1)) := by
  have whole : ∀ X : Buf (Elt F) (win0_2.arr.view.loc (c : Thread nD τ)), (win0_2.blk (0 : Fin 1)).view.read (Elt F) X = X := fun X =>
    Memref.read_access_unit_zero (Elt F) main_v1 origin2 (fun a => by fin_cases a <;> decide) X
  have last := (dats m ρ 0 c).arrAt_succ (2 : Fin 3) t0_0
  rw [if_pos (flush0_2 t0_0)] at last
  have h : (win0_2.blk (0 : Fin 1)).view.read (Elt F) (finalA m ρ c (2 : Fin 3)) = outX (inA m) (inB m) :=
    (congrArg ((win0_2.blk (0 : Fin 1)).view.read (Elt F)) last).trans (View.read_write_univ _ _)
  rw [whole, funext (inA_eq m), funext (inB_eq m)] at h
  exact h

end Cert.Ring
end
end
-- ==== Proof.Ring.Values.lean ====
/-
# The result over the extended reals

Read over the extended reals: the sum that travels round the ring is the sum over the four devices of their partial
products, in whatever order the ring adds them, and so an element of the result is gelu of that sum.
-/
module

public import proofs.«01_k».proof.Proof.Ring.Ends
public import Idealize.ShloMosaic.Lib.MatmulPlain
public import Idealize.ShloMosaic.Lib.Pipeline.Value

@[expose] public section

noncomputable section

namespace Cert.Ring

open Cert.KernelIdeal Cert.KernelIdeal.Gen
open Idealize.ShloMosaic Idealize.ShloMosaic.TcCoe Idealize.ShloMosaic.ValueIdx
open scoped BigOperators

/-- Gelu with the kernel's constants, in the kernel's order of operations. -/
def gelu (z : EReal) : EReal :=
  Scalar.ofBits (F := Ideal) .f32 0x3F000000#32 * z * (Scalar.ofBits (F := Ideal) .f32 0x3F800000#32
    + FloatOps.tanh (F := Ideal) (φ := .f32) (Scalar.ofBits (F := Ideal) .f32 0x3F4C422A#32
      * (z + Scalar.ofBits (F := Ideal) .f32 0x3D372713#32 * z * z * z)))

variable (A : Dev nD → Vec Ideal S2048x1024 .bf16) (B : Dev nD → Vec Ideal S1024x2048 .bf16)

/-- Device `c`'s share of the product at `(i, j)`. -/
def part (c : Dev nD) (i : Fin 2048) (j : Fin 2048) : EReal := ∑ k : Fin 1024, A c (ix2 i k) * B c (ix2 k j)

/-- Row `i` of chunk `r`, -/
def rowAt (r : Fin 4) (i : Fin 512) : Fin 2048 := ⟨512 * r.val + i.val, by omega⟩
/-- row `i` of a tile, within its chunk, -/
def subRow (d : Fin 2) (i : Fin 256) : Fin 512 := ⟨256 * d.val + i.val, by omega⟩
/-- and column `j` of a tile. -/
def colAt (p : Fin 2) (j : Fin 1024) : Fin 2048 := ⟨1024 * p.val + j.val, by omega⟩

theorem rows_emb (r : Fin 4) (i : Fin 512) (k : Fin 1024) : (rowsR r).emb (ix2 i k) = ix2 (rowAt r i) k := by
  funext a; apply Fin.ext
  match a with
  | ⟨0, _⟩ => show 512 * r.val + 1 * i.val = 512 * r.val + i.val; omega
  | ⟨1, _⟩ => show 0 + 1 * k.val = k.val; omega
theorem sub_emb (d p : Fin 2) (i : Fin 256) (j : Fin 1024) : (subR d p).emb (ix2 i j) = ix2 (subRow d i) (colAt p j) := by
  funext a; apply Fin.ext
  match a with
  | ⟨0, _⟩ => show 256 * d.val + 1 * i.val = 256 * d.val + i.val; omega
  | ⟨1, _⟩ => show 1024 * p.val + 1 * j.val = 1024 * p.val + j.val; omega

/-- A row chunk's partial product, element by element. -/
theorem chunk_apply (c : Dev nD) (r : Fin 4) (i : Fin 512) (j : Fin 2048) : chunkV A B c r (ix2 i j) = part A B c (rowAt r i) j := by
  have h : chunkV A B c r (ix2 i j)
      = FloatOps.matmul (F := Ideal) (φ₁ := .bf16) (φ₂ := .bf16) (DotDims.plain 512 1024 2048) none (rowsV A c r) (B c) (constant S512x2048 .f32 0x00000000#32) (ix2 i j) := by
    unfold chunkV k0_pay2 k0_pay1
    simp only [shapeCast_self]
    rfl
  rw [h, Ideal.matmul_plain_apply]
  have h0 : (constant S512x2048 .f32 0x00000000#32 : FVec Ideal S512x2048 .f32) (ix2 i j) = 0 := Ideal.ofBits_zero_f32
  rw [h0, zero_add]
  unfold part rowsV
  exact Finset.sum_congr rfl fun k _ => by rw [rows_emb]

theorem tile_apply (d p : Fin 2) (r : Fin 4) (c : Dev nD) (i : Fin 256) (j : Fin 1024) :
    tileV A B d p r c (ix2 i j) = part A B c (rowAt r (subRow d i)) (colAt p j) := by
  unfold tileV; rw [sub_emb, chunk_apply]

/-- Adding what landed is addition. -/
theorem accOp_apply (x y : Tile Ideal) (j : S256x1024.Idx) : accOp x y j = x j + y j := by
  unfold accOp k0_pay6
  simp only [shapeCast_self]
  have h : shapeCast S256x1024 (slot4 y) shapeCasts_S1x1x256x1024_S256x1024 = y := by
    funext k; unfold slot4 shapeCast; simp [Shape.reshapeEquiv]
  rw [h]; rfl

/-- The devices from `c` back are all of them. -/
theorem sum_ring (d : Fin 2) (c : Dev nD) (f : Dev nD → EReal) :
    f c + (f (prv d c) + (f (prv d (prv d c)) + f (prv d (prv d (prv d c))))) = ∑ c, f c := by
  have h : (Finset.univ : Finset (Dev nD)) = {c, prv d c, prv d (prv d c), prv d (prv d (prv d c))} := by revert d c; decide
  have h1 : c ∉ ({prv d c, prv d (prv d c), prv d (prv d (prv d c))} : Finset (Dev nD)) := by revert d c; decide
  have h2 : prv d c ∉ ({prv d (prv d c), prv d (prv d (prv d c))} : Finset (Dev nD)) := by revert d c; decide
  have h3 : prv d (prv d c) ∉ ({prv d (prv d (prv d c))} : Finset (Dev nD)) := by revert d c; decide
  rw [h, Finset.sum_insert h1, Finset.sum_insert h2, Finset.sum_insert h3, Finset.sum_singleton]

theorem pos_prv (d : Fin 2) (c : Dev nD) (k : ℕ) : pos d (prv d c) k = pos d c (k + 1) := by
  have := pos_nxt d (prv d c) k; rw [nxt_prv] at this; exact this.symm

/-- The last sum of a tile is the sum over the devices. -/
theorem acc_apply (d p : Fin 2) (c : Dev nD) (j : S256x1024.Idx) :
    acc A B d p 3 c j = ∑ c', tileV A B d p (pos d c 3) c' j := by
  rw [← sum_ring d c]
  simp only [acc, accOp_apply, pos_prv]

/-- An element of the result. -/
theorem out_apply (d p : Fin 2) (r : Fin 4) (i : Fin 256) (j : Fin 1024) :
    outV A B d p r (ix2 i j) = gelu (∑ c, part A B c (rowAt r (subRow d i)) (colAt p j)) := by
  have h : ∀ x : Tile Ideal, k0_pay18 x (ix2 i j) = gelu (x (ix2 i j)) := fun x => rfl
  unfold outV
  rw [h, acc_apply, pos_owner]
  exact congrArg gelu (Finset.sum_congr rfl fun c _ => tile_apply A B d p r c i j)

theorem outX_apply (i j : Fin 2048) : outX A B (ix2 i j) = gelu (∑ c, part A B c i j) := by
  have hj : inTile (ix2 i j) = ix2 (⟨i.val % 256, Nat.mod_lt _ (by decide)⟩ : Fin 256) (⟨j.val % 1024, Nat.mod_lt _ (by decide)⟩ : Fin 1024) := by
    funext a; match a with | ⟨0, _⟩ => rfl | ⟨1, _⟩ => rfl
  unfold outX
  rw [hj, out_apply]
  have hr : rowAt (tileOf (ix2 i j)).2.2 (subRow (tileOf (ix2 i j)).1 ⟨i.val % 256, Nat.mod_lt _ (by decide)⟩) = i := by
    apply Fin.ext
    show 512 * (i.val / 512) + (256 * (i.val / 256 % 2) + i.val % 256) = i.val
    omega
  have hc : colAt (tileOf (ix2 i j)).2.1 ⟨j.val % 1024, Nat.mod_lt _ (by decide)⟩ = j := by
    apply Fin.ext
    show 1024 * (j.val / 1024) + j.val % 1024 = j.val
    omega
  rw [hr, hc]

end Cert.Ring
end
end
-- ==== Proof.Ring.Whole.lean ====
/-
# The reference's result

The reference's result over the extended reals, element by element, and that the kernel's is the same when the
devices' blocks are cut from the reference's arrays.
-/
module

public import proofs.«01_k».proof.Proof.Ring.Values
public import proofs.«01_k».proof.Proof.Gen.ReferenceIdeal.Run
public import Idealize.ShloMosaic.Lib.StackMember
public import Idealize.ShloMosaic.Lib.Layout

@[expose] public section

noncomputable section

namespace Cert.Ring

open Idealize.ShloMosaic Idealize.ShloMosaic.ValueIdx
open scoped BigOperators

/-- The contraction cut in four: block `c`'s position `k` is position `1024 c + k`. -/
def cut (c : Fin 4) (k : Fin 1024) : Fin 4096 := ⟨c.val * 1024 + k.val, by omega⟩

theorem sum_cut (f : Fin 4096 → EReal) : ∑ k, f k = ∑ c : Fin 4, ∑ k : Fin 1024, f (cut c k) := by
  rw [← Equiv.sum_comp (finProdFinEquiv (m := 4) (n := 1024)) f, Fintype.sum_prod_type]
  refine Finset.sum_congr rfl fun c _ => Finset.sum_congr rfl fun k _ => congrArg f (Fin.ext ?_)
  show k.val + 1024 * c.val = c.val * 1024 + k.val
  omega

section
open Cert.ReferenceIdeal Cert.ReferenceIdeal.Gen

variable (WA : FVec Ideal S2048x4096 .bf16) (WB : FVec Ideal S4096x2048 .bf16)

/-- The whole product as the reference computes it, -/
def dotW : FVec Ideal S2048x2048 .f32 :=
  Host.dotGeneral dot_S2048x4096_S4096x2048_S2048x2048_1_0_0_1_n_n none (extf .f32 WA bitsLt_bf16_f32) (extf .f32 WB bitsLt_bf16_f32)
/-- and gelu of it. -/
def refX : FVec Ideal S2048x2048 .bf16 :=
  truncf .bf16 (mulf (mulf (broadcastInDim S2048x2048 ![] bcast_S_S2048x2048 (constant S_ .f32 0x3F000000#32)) (dotW WA WB))
    (addf (broadcastInDim S2048x2048 ![] bcast_S_S2048x2048 (constant S_ .f32 0x3F800000#32))
      (Host.tanh (mulf (broadcastInDim S2048x2048 ![] bcast_S_S2048x2048 (constant S_ .f32 0x3F4C422A#32))
        (addf (dotW WA WB) (mulf (mulf (mulf (broadcastInDim S2048x2048 ![] bcast_S_S2048x2048 (constant S_ .f32 0x3D372713#32))
          (dotW WA WB)) (dotW WA WB)) (dotW WA WB))))))) bitsLt_bf16_f32

theorem dotW_apply (i j : Fin 2048) : dotW WA WB (ix2 i j) = ∑ k : Fin 4096, WA (ix2 i k) * WB (ix2 k j) :=
  StackMember.dotGeneral_plain_apply (m := 2048) (n := 2048) (k := 4096) none (extf .f32 WA bitsLt_bf16_f32) (extf .f32 WB bitsLt_bf16_f32) i j

theorem refX_apply (i j : Fin 2048) : refX WA WB (ix2 i j) = gelu (dotW WA WB (ix2 i j)) := rfl

end

section
open Cert.KernelIdeal

variable (WA : (⟨2, ![2048, 4096]⟩ : Shape).Idx → EReal) (WB : (⟨2, ![4096, 2048]⟩ : Shape).Idx → EReal)

theorem block_A (c : Fin 4) (i : Fin 2048) (k : Fin 1024) :
    Layout.block ⟨2, ![2048, 1024]⟩ ⟨2, ![2048, 4096]⟩ 1 4 c WA (by decide) (ix2 i k) = WA (ix2 i (cut c k)) :=
  congrArg WA (funext fun a => match a with | ⟨0, _⟩ => Fin.ext rfl | ⟨1, _⟩ => Fin.ext rfl)
theorem block_B (c : Fin 4) (k : Fin 1024) (j : Fin 2048) :
    Layout.block ⟨2, ![1024, 2048]⟩ ⟨2, ![4096, 2048]⟩ 0 4 c WB (by decide) (ix2 k j) = WB (ix2 (cut c k) j) :=
  congrArg WB (funext fun a => match a with | ⟨0, _⟩ => Fin.ext rfl | ⟨1, _⟩ => Fin.ext rfl)

/-- From the blocks of the reference's arrays the kernel computes the reference's result. -/
theorem outX_eq_refX (A : Dev nD → Vec Ideal S2048x1024 .bf16) (B : Dev nD → Vec Ideal S1024x2048 .bf16)
    (hA : ∀ c, A c = Layout.block ⟨2, ![2048, 1024]⟩ ⟨2, ![2048, 4096]⟩ 1 4 c WA)
    (hB : ∀ c, B c = Layout.block ⟨2, ![1024, 2048]⟩ ⟨2, ![4096, 2048]⟩ 0 4 c WB) : outX A B = refX WA WB := by
  have key : ∀ i j : Fin 2048, outX A B (ix2 i j) = refX WA WB (ix2 i j) := fun i j => by
    rw [outX_apply, refX_apply, dotW_apply, sum_cut]
    refine congrArg gelu (Finset.sum_congr rfl fun c _ => ?_)
    unfold part
    refine Finset.sum_congr rfl fun k _ => ?_
    rw [hA, hB, block_A, block_B]
  funext x
  rw [eq_ix2 x]
  exact key _ _

end

end Cert.Ring
end
end
-- ==== Proof.Ring.Twin.lean ====
/-
# One text, two names

The program and its reading over the extended reals are the same text. Their bodies, and so their tables of bodies,
are equal at every choice of float values.
-/
module

public import proofs.«01_k».proof.Proof.Gen.Kernel
public import proofs.«01_k».proof.Proof.Gen.KernelIdeal

@[expose] public section

noncomputable section

namespace Cert.Ring

open Idealize.ShloMosaic Idealize.SL.Sem

variable {F : FTy → Type} [FloatOps F]

set_option maxRecDepth 65536 in
theorem body_twin : @Cert.Kernel.cc0_body F _ Cert.Kernel.Gen.facts = @Cert.KernelIdeal.cc0_body F _ Cert.KernelIdeal.Gen.facts := rfl

set_option maxRecDepth 65536 in
theorem bodies_twin : Cert.Kernel.defs₀ (F := F) = Cert.KernelIdeal.defs₀ (F := F) := by
  unfold Cert.Kernel.defs₀ Cert.KernelIdeal.defs₀
  rw [body_twin]
  refine congrArg Defs.onTc (funext fun l => funext fun x => ?_)
  match l, x with
  | ⟨0, _⟩, (t, s) => rfl
  | ⟨_ + 1, h⟩, _ => exact absurd h (by omega)

theorem defs_twin : Cert.Kernel.defs (F := F) = Cert.KernelIdeal.defs (F := F) := by
  unfold Cert.Kernel.defs Cert.KernelIdeal.defs
  exact congrArg (Pipeline.defs (Cert.KernelIdeal.pcfgs (F := F))) bodies_twin

end Cert.Ring
end
end
-- ==== Proof.lean ====
/- The claims about the ring kernel, assembled: its run (`Ring/Launch.lean`), the frames read off it at the two float
   instances, the reference's run, and the agreement of the two results over the extended reals (`Ring/Whole.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ring.Launch
public import proofs.«01_k».proof.Proof.Ring.Whole
public import proofs.«01_k».proof.Proof.Ring.Twin
public import Idealize.ShloMosaic.Adequacy
public import Idealize.ShloMosaic.Init

@[expose] public section

noncomputable section

namespace Cert.Proof

open Idealize.ShloMosaic Idealize.SL.Sem Cert.Kernel

/-- Over any float values the kernel ends with its arguments unchanged and every counter at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono
    (fun _ h => ⟨fun c => ⟨(h.1 c (0 : Fin 3)).trans (Cert.Ring.final_arg0 m ρ c), (h.1 c (1 : Fin 3)).trans (Cert.Ring.final_arg1 m ρ c)⟩, h.2⟩)
    (Cert.Ring.run_main m ρ)

/-- Read over the extended reals, -/
theorem frame_ideal : Cert.quiescent_KernelIdeal := fun m ρ _ => frame (F := Ideal) m ρ

set_option maxRecDepth 65536 in
/-- and on bit patterns, where the kernel is the same text. -/
theorem frame_kernel : Cert.quiescent_Kernel := by
  intro m ρ _
  rw [Cert.Ring.defs_twin]
  exact frame (F := Bits) m ρ

/-- The reference ends with its arguments unchanged; it has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On every device the result is the reference's whole result. -/
theorem same_result : Cert.algebraic_KernelIdeal_ReferenceIdeal := fun m ρ m' ρ' _ hargs =>
  ⟨Cert.Ring.refX (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (Cert.Ring.final_out m ρ c)).trans
          (Cert.Ring.outX_eq_refX _ _ _ _ (fun c => (hargs c).1) (fun c => (hargs c).2)),
        (h.1 c (0 : Fin 3)).trans (Cert.Ring.final_arg0 m ρ c), (h.1 c (1 : Fin 3)).trans (Cert.Ring.final_arg1 m ρ c)⟩)
      (Cert.Ring.run_main (F := Ideal) m ρ),
    (θ_run Cert.ReferenceIdeal.defs _ _).mono (fun _ h => ⟨(h 0).1, (h 0).2.1, (h 0).2.2⟩)
      (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, same_result⟩

end Cert.Proof

end
